-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 512]⟩ ⟨2, ![16384, 512]⟩ 0 16 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v5) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x512 : Shape := ⟨2, ![1024, 512]⟩
abbrev S2x512 : Shape := ⟨2, ![2, 512]⟩
abbrev S4x256x512 : Shape := ⟨3, ![4, 256, 512]⟩
abbrev S15x2x512 : Shape := ⟨3, ![15, 2, 512]⟩
abbrev S4 : Shape := ⟨1, ![4]⟩
abbrev S15 : Shape := ⟨1, ![15]⟩
abbrev S_ : Shape := ⟨0, ![]⟩
abbrev S1 : Shape := ⟨1, ![1]⟩
abbrev S1x256x512 : Shape := ⟨3, ![1, 256, 512]⟩
abbrev S256x512 : Shape := ⟨2, ![256, 512]⟩
abbrev S512 : Shape := ⟨1, ![512]⟩
abbrev S1x512 : Shape := ⟨2, ![1, 512]⟩
abbrev S1x2x512 : Shape := ⟨3, ![1, 2, 512]⟩
abbrev S1x1x512 : Shape := ⟨3, ![1, 1, 512]⟩

abbrev nBuf : Space → Nat
  | .hbm => 2
  | .vmem => 4
  | .smem => 0
  | _ => 0

abbrev bufTy : (tb : Table) → Fin (tcTables nBuf tb) → BufTy
  | .hbm, ⟨0, _⟩ => ⟨S1024x512, .f32⟩
  | .hbm, ⟨1, _⟩ => ⟨S2x512, .f32⟩
  | .local _ .vmem, ⟨0, _⟩ => ⟨S2x512, .f32⟩
  | .local _ .vmem, ⟨1, _⟩ => ⟨S4x256x512, .f32⟩
  | .local _ .vmem, ⟨2, _⟩ => ⟨S2x512, .f32⟩
  | .local _ .vmem, ⟨3, _⟩ => ⟨S15x2x512, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  (ofTc nBuf bufTy 1 35 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_sem0_0 : DmaSem sig := 0
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_4 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v4 : BitVec 32 := Scalar.addi v2 c1_i32_0
  let c0_i32 : BitVec 32 := 0#32
  let v5 : BitVec 32 := Scalar.addi v4 c0_i32
  let c16_i32_1 : BitVec 32 := 16#32
  let v6 : BitVec 32 := Scalar.remsi v5 c16_i32_1
  let c1_i32_3 : BitVec 32 := 1#32
  let v7 : BitVec 32 := Scalar.muli v6 c1_i32_3
  let v8 : BitVec 32 := Scalar.addi c0_i32_4 v7
  v8.toNat
def k0_dev2 (d0 : Dev nD) : Nat :=
  let c0_i32_10 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_5 : BitVec 32 := 1#32
  let v9 : BitVec 32 := Scalar.addi v2 c1_i32_5
  let c1_i32_6 : BitVec 32 := 1#32
  let v10 : BitVec 32 := Scalar.addi v9 c1_i32_6
  let c16_i32_7 : BitVec 32 := 16#32
  let v11 : BitVec 32 := Scalar.remsi v10 c16_i32_7
  let c1_i32_9 : BitVec 32 := 1#32
  let v12 : BitVec 32 := Scalar.muli v11 c1_i32_9
  let v13 : BitVec 32 := Scalar.addi c0_i32_10 v12
  v13.toNat
def k0_dev3 (d0 : Dev nD) : Nat :=
  let c0_i32_15 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_11 : BitVec 32 := 1#32
  let v14 : BitVec 32 := Scalar.addi v2 c1_i32_11
  let c2_i32 : BitVec 32 := 2#32
  let v15 : BitVec 32 := Scalar.addi v14 c2_i32
  let c16_i32_12 : BitVec 32 := 16#32
  let v16 : BitVec 32 := Scalar.remsi v15 c16_i32_12
  let c1_i32_14 : BitVec 32 := 1#32
  let v17 : BitVec 32 := Scalar.muli v16 c1_i32_14
  let v18 : BitVec 32 := Scalar.addi c0_i32_15 v17
  v18.toNat
def k0_dev4 (d0 : Dev nD) : Nat :=
  let c0_i32_20 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_16 : BitVec 32 := 1#32
  let v19 : BitVec 32 := Scalar.addi v2 c1_i32_16
  let c3_i32 : BitVec 32 := 3#32
  let v20 : BitVec 32 := Scalar.addi v19 c3_i32
  let c16_i32_17 : BitVec 32 := 16#32
  let v21 : BitVec 32 := Scalar.remsi v20 c16_i32_17
  let c1_i32_19 : BitVec 32 := 1#32
  let v22 : BitVec 32 := Scalar.muli v21 c1_i32_19
  let v23 : BitVec 32 := Scalar.addi c0_i32_20 v22
  v23.toNat
def k0_dev5 (d0 : Dev nD) : Nat :=
  let c0_i32_25 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_21 : BitVec 32 := 1#32
  let v24 : BitVec 32 := Scalar.addi v2 c1_i32_21
  let c4_i32 : BitVec 32 := 4#32
  let v25 : BitVec 32 := Scalar.addi v24 c4_i32
  let c16_i32_22 : BitVec 32 := 16#32
  let v26 : BitVec 32 := Scalar.remsi v25 c16_i32_22
  let c1_i32_24 : BitVec 32 := 1#32
  let v27 : BitVec 32 := Scalar.muli v26 c1_i32_24
  let v28 : BitVec 32 := Scalar.addi c0_i32_25 v27
  v28.toNat
def k0_dev6 (d0 : Dev nD) : Nat :=
  let c0_i32_30 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_26 : BitVec 32 := 1#32
  let v29 : BitVec 32 := Scalar.addi v2 c1_i32_26
  let c5_i32 : BitVec 32 := 5#32
  let v30 : BitVec 32 := Scalar.addi v29 c5_i32
  let c16_i32_27 : BitVec 32 := 16#32
  let v31 : BitVec 32 := Scalar.remsi v30 c16_i32_27
  let c1_i32_29 : BitVec 32 := 1#32
  let v32 : BitVec 32 := Scalar.muli v31 c1_i32_29
  let v33 : BitVec 32 := Scalar.addi c0_i32_30 v32
  v33.toNat
def k0_dev7 (d0 : Dev nD) : Nat :=
  let c0_i32_35 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_31 : BitVec 32 := 1#32
  let v34 : BitVec 32 := Scalar.addi v2 c1_i32_31
  let c6_i32 : BitVec 32 := 6#32
  let v35 : BitVec 32 := Scalar.addi v34 c6_i32
  let c16_i32_32 : BitVec 32 := 16#32
  let v36 : BitVec 32 := Scalar.remsi v35 c16_i32_32
  let c1_i32_34 : BitVec 32 := 1#32
  let v37 : BitVec 32 := Scalar.muli v36 c1_i32_34
  let v38 : BitVec 32 := Scalar.addi c0_i32_35 v37
  v38.toNat
def k0_dev8 (d0 : Dev nD) : Nat :=
  let c0_i32_40 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_36 : BitVec 32 := 1#32
  let v39 : BitVec 32 := Scalar.addi v2 c1_i32_36
  let c7_i32 : BitVec 32 := 7#32
  let v40 : BitVec 32 := Scalar.addi v39 c7_i32
  let c16_i32_37 : BitVec 32 := 16#32
  let v41 : BitVec 32 := Scalar.remsi v40 c16_i32_37
  let c1_i32_39 : BitVec 32 := 1#32
  let v42 : BitVec 32 := Scalar.muli v41 c1_i32_39
  let v43 : BitVec 32 := Scalar.addi c0_i32_40 v42
  v43.toNat
def k0_dev9 (d0 : Dev nD) : Nat :=
  let c0_i32_45 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_41 : BitVec 32 := 1#32
  let v44 : BitVec 32 := Scalar.addi v2 c1_i32_41
  let c8_i32 : BitVec 32 := 8#32
  let v45 : BitVec 32 := Scalar.addi v44 c8_i32
  let c16_i32_42 : BitVec 32 := 16#32
  let v46 : BitVec 32 := Scalar.remsi v45 c16_i32_42
  let c1_i32_44 : BitVec 32 := 1#32
  let v47 : BitVec 32 := Scalar.muli v46 c1_i32_44
  let v48 : BitVec 32 := Scalar.addi c0_i32_45 v47
  v48.toNat
def k0_dev10 (d0 : Dev nD) : Nat :=
  let c0_i32_50 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_46 : BitVec 32 := 1#32
  let v49 : BitVec 32 := Scalar.addi v2 c1_i32_46
  let c9_i32 : BitVec 32 := 9#32
  let v50 : BitVec 32 := Scalar.addi v49 c9_i32
  let c16_i32_47 : BitVec 32 := 16#32
  let v51 : BitVec 32 := Scalar.remsi v50 c16_i32_47
  let c1_i32_49 : BitVec 32 := 1#32
  let v52 : BitVec 32 := Scalar.muli v51 c1_i32_49
  let v53 : BitVec 32 := Scalar.addi c0_i32_50 v52
  v53.toNat
def k0_dev11 (d0 : Dev nD) : Nat :=
  let c0_i32_55 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_51 : BitVec 32 := 1#32
  let v54 : BitVec 32 := Scalar.addi v2 c1_i32_51
  let c10_i32 : BitVec 32 := 10#32
  let v55 : BitVec 32 := Scalar.addi v54 c10_i32
  let c16_i32_52 : BitVec 32 := 16#32
  let v56 : BitVec 32 := Scalar.remsi v55 c16_i32_52
  let c1_i32_54 : BitVec 32 := 1#32
  let v57 : BitVec 32 := Scalar.muli v56 c1_i32_54
  let v58 : BitVec 32 := Scalar.addi c0_i32_55 v57
  v58.toNat
def k0_dev12 (d0 : Dev nD) : Nat :=
  let c0_i32_60 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_56 : BitVec 32 := 1#32
  let v59 : BitVec 32 := Scalar.addi v2 c1_i32_56
  let c11_i32 : BitVec 32 := 11#32
  let v60 : BitVec 32 := Scalar.addi v59 c11_i32
  let c16_i32_57 : BitVec 32 := 16#32
  let v61 : BitVec 32 := Scalar.remsi v60 c16_i32_57
  let c1_i32_59 : BitVec 32 := 1#32
  let v62 : BitVec 32 := Scalar.muli v61 c1_i32_59
  let v63 : BitVec 32 := Scalar.addi c0_i32_60 v62
  v63.toNat
def k0_dev13 (d0 : Dev nD) : Nat :=
  let c0_i32_65 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_61 : BitVec 32 := 1#32
  let v64 : BitVec 32 := Scalar.addi v2 c1_i32_61
  let c12_i32 : BitVec 32 := 12#32
  let v65 : BitVec 32 := Scalar.addi v64 c12_i32
  let c16_i32_62 : BitVec 32 := 16#32
  let v66 : BitVec 32 := Scalar.remsi v65 c16_i32_62
  let c1_i32_64 : BitVec 32 := 1#32
  let v67 : BitVec 32 := Scalar.muli v66 c1_i32_64
  let v68 : BitVec 32 := Scalar.addi c0_i32_65 v67
  v68.toNat
def k0_dev14 (d0 : Dev nD) : Nat :=
  let c0_i32_70 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_66 : BitVec 32 := 1#32
  let v69 : BitVec 32 := Scalar.addi v2 c1_i32_66
  let c13_i32 : BitVec 32 := 13#32
  let v70 : BitVec 32 := Scalar.addi v69 c13_i32
  let c16_i32_67 : BitVec 32 := 16#32
  let v71 : BitVec 32 := Scalar.remsi v70 c16_i32_67
  let c1_i32_69 : BitVec 32 := 1#32
  let v72 : BitVec 32 := Scalar.muli v71 c1_i32_69
  let v73 : BitVec 32 := Scalar.addi c0_i32_70 v72
  v73.toNat
def k0_dev15 (d0 : Dev nD) : Nat :=
  let c0_i32_75 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_71 : BitVec 32 := 1#32
  let v74 : BitVec 32 := Scalar.addi v2 c1_i32_71
  let c14_i32 : BitVec 32 := 14#32
  let v75 : BitVec 32 := Scalar.addi v74 c14_i32
  let c16_i32_72 : BitVec 32 := 16#32
  let v76 : BitVec 32 := Scalar.remsi v75 c16_i32_72
  let c1_i32_74 : BitVec 32 := 1#32
  let v77 : BitVec 32 := Scalar.muli v76 c1_i32_74
  let v78 : BitVec 32 := Scalar.addi c0_i32_75 v77
  v78.toNat
def k0_dev16 (d0 : Dev nD) : Nat :=
  let c0_i32_155 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32 : BitVec 32 := 32#32
  let v195 : BitVec 32 := Scalar.addi v2 c32_i32
  let c1_i32_148 : BitVec 32 := 1#32
  let v196 : BitVec 32 := Scalar.subi v195 c1_i32_148
  let c0_i32_149 : BitVec 32 := 0#32
  let v197 : BitVec 32 := Scalar.subi v196 c0_i32_149
  let c16_i32_150 : BitVec 32 := 16#32
  let v198 : BitVec 32 := Scalar.remsi v197 c16_i32_150
  let c1_i32_154 : BitVec 32 := 1#32
  let v199 : BitVec 32 := Scalar.muli v198 c1_i32_154
  let v200 : BitVec 32 := Scalar.addi c0_i32_155 v199
  v200.toNat
def k0_dev17 (d0 : Dev nD) : Nat :=
  let c0_i32_166 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_158 : BitVec 32 := 32#32
  let v207 : BitVec 32 := Scalar.addi v2 c32_i32_158
  let c1_i32_159 : BitVec 32 := 1#32
  let v208 : BitVec 32 := Scalar.subi v207 c1_i32_159
  let c1_i32_160 : BitVec 32 := 1#32
  let v209 : BitVec 32 := Scalar.subi v208 c1_i32_160
  let c16_i32_161 : BitVec 32 := 16#32
  let v210 : BitVec 32 := Scalar.remsi v209 c16_i32_161
  let c1_i32_165 : BitVec 32 := 1#32
  let v211 : BitVec 32 := Scalar.muli v210 c1_i32_165
  let v212 : BitVec 32 := Scalar.addi c0_i32_166 v211
  v212.toNat
def k0_dev18 (d0 : Dev nD) : Nat :=
  let c0_i32_177 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_169 : BitVec 32 := 32#32
  let v219 : BitVec 32 := Scalar.addi v2 c32_i32_169
  let c1_i32_170 : BitVec 32 := 1#32
  let v220 : BitVec 32 := Scalar.subi v219 c1_i32_170
  let c2_i32_171 : BitVec 32 := 2#32
  let v221 : BitVec 32 := Scalar.subi v220 c2_i32_171
  let c16_i32_172 : BitVec 32 := 16#32
  let v222 : BitVec 32 := Scalar.remsi v221 c16_i32_172
  let c1_i32_176 : BitVec 32 := 1#32
  let v223 : BitVec 32 := Scalar.muli v222 c1_i32_176
  let v224 : BitVec 32 := Scalar.addi c0_i32_177 v223
  v224.toNat
def k0_dev19 (d0 : Dev nD) : Nat :=
  let c0_i32_188 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_180 : BitVec 32 := 32#32
  let v231 : BitVec 32 := Scalar.addi v2 c32_i32_180
  let c1_i32_181 : BitVec 32 := 1#32
  let v232 : BitVec 32 := Scalar.subi v231 c1_i32_181
  let c3_i32_182 : BitVec 32 := 3#32
  let v233 : BitVec 32 := Scalar.subi v232 c3_i32_182
  let c16_i32_183 : BitVec 32 := 16#32
  let v234 : BitVec 32 := Scalar.remsi v233 c16_i32_183
  let c1_i32_187 : BitVec 32 := 1#32
  let v235 : BitVec 32 := Scalar.muli v234 c1_i32_187
  let v236 : BitVec 32 := Scalar.addi c0_i32_188 v235
  v236.toNat
def k0_dev20 (d0 : Dev nD) : Nat :=
  let c0_i32_199 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_191 : BitVec 32 := 32#32
  let v243 : BitVec 32 := Scalar.addi v2 c32_i32_191
  let c1_i32_192 : BitVec 32 := 1#32
  let v244 : BitVec 32 := Scalar.subi v243 c1_i32_192
  let c4_i32_193 : BitVec 32 := 4#32
  let v245 : BitVec 32 := Scalar.subi v244 c4_i32_193
  let c16_i32_194 : BitVec 32 := 16#32
  let v246 : BitVec 32 := Scalar.remsi v245 c16_i32_194
  let c1_i32_198 : BitVec 32 := 1#32
  let v247 : BitVec 32 := Scalar.muli v246 c1_i32_198
  let v248 : BitVec 32 := Scalar.addi c0_i32_199 v247
  v248.toNat
def k0_dev21 (d0 : Dev nD) : Nat :=
  let c0_i32_210 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_202 : BitVec 32 := 32#32
  let v255 : BitVec 32 := Scalar.addi v2 c32_i32_202
  let c1_i32_203 : BitVec 32 := 1#32
  let v256 : BitVec 32 := Scalar.subi v255 c1_i32_203
  let c5_i32_204 : BitVec 32 := 5#32
  let v257 : BitVec 32 := Scalar.subi v256 c5_i32_204
  let c16_i32_205 : BitVec 32 := 16#32
  let v258 : BitVec 32 := Scalar.remsi v257 c16_i32_205
  let c1_i32_209 : BitVec 32 := 1#32
  let v259 : BitVec 32 := Scalar.muli v258 c1_i32_209
  let v260 : BitVec 32 := Scalar.addi c0_i32_210 v259
  v260.toNat
def k0_dev22 (d0 : Dev nD) : Nat :=
  let c0_i32_221 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_213 : BitVec 32 := 32#32
  let v267 : BitVec 32 := Scalar.addi v2 c32_i32_213
  let c1_i32_214 : BitVec 32 := 1#32
  let v268 : BitVec 32 := Scalar.subi v267 c1_i32_214
  let c6_i32_215 : BitVec 32 := 6#32
  let v269 : BitVec 32 := Scalar.subi v268 c6_i32_215
  let c16_i32_216 : BitVec 32 := 16#32
  let v270 : BitVec 32 := Scalar.remsi v269 c16_i32_216
  let c1_i32_220 : BitVec 32 := 1#32
  let v271 : BitVec 32 := Scalar.muli v270 c1_i32_220
  let v272 : BitVec 32 := Scalar.addi c0_i32_221 v271
  v272.toNat
def k0_dev23 (d0 : Dev nD) : Nat :=
  let c0_i32_232 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_224 : BitVec 32 := 32#32
  let v279 : BitVec 32 := Scalar.addi v2 c32_i32_224
  let c1_i32_225 : BitVec 32 := 1#32
  let v280 : BitVec 32 := Scalar.subi v279 c1_i32_225
  let c7_i32_226 : BitVec 32 := 7#32
  let v281 : BitVec 32 := Scalar.subi v280 c7_i32_226
  let c16_i32_227 : BitVec 32 := 16#32
  let v282 : BitVec 32 := Scalar.remsi v281 c16_i32_227
  let c1_i32_231 : BitVec 32 := 1#32
  let v283 : BitVec 32 := Scalar.muli v282 c1_i32_231
  let v284 : BitVec 32 := Scalar.addi c0_i32_232 v283
  v284.toNat
def k0_dev24 (d0 : Dev nD) : Nat :=
  let c0_i32_243 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_235 : BitVec 32 := 32#32
  let v291 : BitVec 32 := Scalar.addi v2 c32_i32_235
  let c1_i32_236 : BitVec 32 := 1#32
  let v292 : BitVec 32 := Scalar.subi v291 c1_i32_236
  let c8_i32_237 : BitVec 32 := 8#32
  let v293 : BitVec 32 := Scalar.subi v292 c8_i32_237
  let c16_i32_238 : BitVec 32 := 16#32
  let v294 : BitVec 32 := Scalar.remsi v293 c16_i32_238
  let c1_i32_242 : BitVec 32 := 1#32
  let v295 : BitVec 32 := Scalar.muli v294 c1_i32_242
  let v296 : BitVec 32 := Scalar.addi c0_i32_243 v295
  v296.toNat
def k0_dev25 (d0 : Dev nD) : Nat :=
  let c0_i32_254 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_246 : BitVec 32 := 32#32
  let v303 : BitVec 32 := Scalar.addi v2 c32_i32_246
  let c1_i32_247 : BitVec 32 := 1#32
  let v304 : BitVec 32 := Scalar.subi v303 c1_i32_247
  let c9_i32_248 : BitVec 32 := 9#32
  let v305 : BitVec 32 := Scalar.subi v304 c9_i32_248
  let c16_i32_249 : BitVec 32 := 16#32
  let v306 : BitVec 32 := Scalar.remsi v305 c16_i32_249
  let c1_i32_253 : BitVec 32 := 1#32
  let v307 : BitVec 32 := Scalar.muli v306 c1_i32_253
  let v308 : BitVec 32 := Scalar.addi c0_i32_254 v307
  v308.toNat
def k0_dev26 (d0 : Dev nD) : Nat :=
  let c0_i32_265 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_257 : BitVec 32 := 32#32
  let v315 : BitVec 32 := Scalar.addi v2 c32_i32_257
  let c1_i32_258 : BitVec 32 := 1#32
  let v316 : BitVec 32 := Scalar.subi v315 c1_i32_258
  let c10_i32_259 : BitVec 32 := 10#32
  let v317 : BitVec 32 := Scalar.subi v316 c10_i32_259
  let c16_i32_260 : BitVec 32 := 16#32
  let v318 : BitVec 32 := Scalar.remsi v317 c16_i32_260
  let c1_i32_264 : BitVec 32 := 1#32
  let v319 : BitVec 32 := Scalar.muli v318 c1_i32_264
  let v320 : BitVec 32 := Scalar.addi c0_i32_265 v319
  v320.toNat
def k0_dev27 (d0 : Dev nD) : Nat :=
  let c0_i32_276 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_268 : BitVec 32 := 32#32
  let v327 : BitVec 32 := Scalar.addi v2 c32_i32_268
  let c1_i32_269 : BitVec 32 := 1#32
  let v328 : BitVec 32 := Scalar.subi v327 c1_i32_269
  let c11_i32_270 : BitVec 32 := 11#32
  let v329 : BitVec 32 := Scalar.subi v328 c11_i32_270
  let c16_i32_271 : BitVec 32 := 16#32
  let v330 : BitVec 32 := Scalar.remsi v329 c16_i32_271
  let c1_i32_275 : BitVec 32 := 1#32
  let v331 : BitVec 32 := Scalar.muli v330 c1_i32_275
  let v332 : BitVec 32 := Scalar.addi c0_i32_276 v331
  v332.toNat
def k0_dev28 (d0 : Dev nD) : Nat :=
  let c0_i32_287 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_279 : BitVec 32 := 32#32
  let v339 : BitVec 32 := Scalar.addi v2 c32_i32_279
  let c1_i32_280 : BitVec 32 := 1#32
  let v340 : BitVec 32 := Scalar.subi v339 c1_i32_280
  let c12_i32_281 : BitVec 32 := 12#32
  let v341 : BitVec 32 := Scalar.subi v340 c12_i32_281
  let c16_i32_282 : BitVec 32 := 16#32
  let v342 : BitVec 32 := Scalar.remsi v341 c16_i32_282
  let c1_i32_286 : BitVec 32 := 1#32
  let v343 : BitVec 32 := Scalar.muli v342 c1_i32_286
  let v344 : BitVec 32 := Scalar.addi c0_i32_287 v343
  v344.toNat
def k0_dev29 (d0 : Dev nD) : Nat :=
  let c0_i32_298 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_290 : BitVec 32 := 32#32
  let v351 : BitVec 32 := Scalar.addi v2 c32_i32_290
  let c1_i32_291 : BitVec 32 := 1#32
  let v352 : BitVec 32 := Scalar.subi v351 c1_i32_291
  let c13_i32_292 : BitVec 32 := 13#32
  let v353 : BitVec 32 := Scalar.subi v352 c13_i32_292
  let c16_i32_293 : BitVec 32 := 16#32
  let v354 : BitVec 32 := Scalar.remsi v353 c16_i32_293
  let c1_i32_297 : BitVec 32 := 1#32
  let v355 : BitVec 32 := Scalar.muli v354 c1_i32_297
  let v356 : BitVec 32 := Scalar.addi c0_i32_298 v355
  v356.toNat
def k0_dev30 (d0 : Dev nD) : Nat :=
  let c0_i32_309 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_301 : BitVec 32 := 32#32
  let v363 : BitVec 32 := Scalar.addi v2 c32_i32_301
  let c1_i32_302 : BitVec 32 := 1#32
  let v364 : BitVec 32 := Scalar.subi v363 c1_i32_302
  let c14_i32_303 : BitVec 32 := 14#32
  let v365 : BitVec 32 := Scalar.subi v364 c14_i32_303
  let c16_i32_304 : BitVec 32 := 16#32
  let v366 : BitVec 32 := Scalar.remsi v365 c16_i32_304
  let c1_i32_308 : BitVec 32 := 1#32
  let v367 : BitVec 32 := Scalar.muli v366 c1_i32_308
  let v368 : BitVec 32 := Scalar.addi c0_i32_309 v367
  v368.toNat
abbrev stage0_0 : Fin 1 → Memref sig .tc .vmem S2x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S16384x512 : Shape := ⟨2, ![16384, 512]⟩
abbrev S_ : Shape := ⟨0, ![]⟩
abbrev S512 : Shape := ⟨1, ![512]⟩
abbrev S1x512 : Shape := ⟨2, ![1, 512]⟩
abbrev S2x512 : Shape := ⟨2, ![2, 512]⟩

abbrev nBuf : Space → Nat
  | .hbm => 12
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S16384x512, .i32⟩
  | .hbm, ⟨2, _⟩ => ⟨S_, .f32⟩
  | .hbm, ⟨3, _⟩ => ⟨S_, .i32⟩
  | .hbm, ⟨4, _⟩ => ⟨S512, .f32⟩
  | .hbm, ⟨5, _⟩ => ⟨S512, .i32⟩
  | .hbm, ⟨6, _⟩ => ⟨S512, .f32⟩
  | .hbm, ⟨7, _⟩ => ⟨S_, .f32⟩
  | .hbm, ⟨8, _⟩ => ⟨S512, .f32⟩
  | .hbm, ⟨9, _⟩ => ⟨S1x512, .f32⟩
  | .hbm, ⟨10, _⟩ => ⟨S1x512, .f32⟩
  | .hbm, ⟨11, _⟩ => ⟨S2x512, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_v0 : Ref sig .tc := ⟨.hbm, 1, rfl⟩
abbrev main_call0_cst : Ref sig .tc := ⟨.hbm, 2, rfl⟩
abbrev main_call0_c : Ref sig .tc := ⟨.hbm, 3, rfl⟩
abbrev main_call0_v1_0 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩

abbrev nD : Nat := 1
abbrev τ : Topo := Topo.v7x

variable {F : FTy → Type} [FloatOps F]
-- ==== Proof.Values.lean ====
/-
# What each device computes

The values of the kernel as functions of the memory at launch, for any float values: a chunk's column maximum and
the first row that has it, the device's own pair after its four chunks, the block it sends, and the pair after each of
the fifteen merges.
-/
module

public import proofs.«01_k».proof.Proof.Gen.KernelIdeal
public import proofs.«01_k».proof.Proof.Gen.KernelIdeal.Skeleton
public import Idealize.ShloMosaic.Lib.ValueIdxCore

@[expose] public section

noncomputable section

namespace Cert.ArgmaxProof

open Cert.KernelIdeal Cert.KernelIdeal.Gen
open Idealize.ShloMosaic Idealize.ShloMosaic.TcCoe Idealize.SL.Sem
open Idealize.ShloMosaic.ValueIdx (ix1 ix2 ix3)

variable {F : FTy → Type} [FloatOps F]

/-! ## The devices -/

set_option backward.proofsInPublic true in
/-- The device `j + 1` places after `c`: the one `c` signals at its step `j`, and whose block lands in slot `j` of `c`. -/
def peer (c : Dev nD) (j : Fin 15) : Dev nD := ⟨(c.val + 1 + j.val) % 16, Nat.mod_lt _ (by decide)⟩
set_option backward.proofsInPublic true in
/-- The device `j + 1` places before `c`: the one `c` sends its block to at its step `j`. -/
def tgt (c : Dev nD) (j : Fin 15) : Dev nD := ⟨(c.val + 15 - j.val) % 16, Nat.mod_lt _ (by decide)⟩

theorem val_lt (c : Dev nD) : c.val < 16 := c.isLt

theorem tgt_peer (c : Dev nD) (j : Fin 15) : tgt (peer c j) j = c :=
  Fin.ext (by have := val_lt c; have := j.isLt; simp only [tgt, peer]; omega)
theorem peer_tgt (c : Dev nD) (j : Fin 15) : peer (tgt c j) j = c :=
  Fin.ext (by have := val_lt c; have := j.isLt; simp only [tgt, peer]; omega)

/-- Step `j`'s rotation of the mesh. -/
def rot (j : Fin 15) : Dev nD ≃ Dev nD := ⟨fun c => peer c j, fun c => tgt c j, fun c => tgt_peer c j, fun c => peer_tgt c j⟩

/-! ## A device's own pair -/

/-- The row number of each entry of a chunk. -/
def rowsV : IVec S256x512 32 := iota .tc S256x512 32 [0] iota_S256x512_d0_w32

/-- A chunk's column maximum, and `off` plus the first row of the chunk that has it. -/
def chunkMax (X : FVec F S256x512 .f32) : FVec F S512 .f32 :=
  multiReduction .maximumf [0] S512 X 0xFF800000#32 reduces_S256x512_S512 (.inl rfl) rfl
def chunkIdx (X : FVec F S256x512 .f32) (off : BitVec 32) : IVec S512 32 :=
  addi (multiReductionI .minsi [0] S512
    (select (cmpf .oeq X (broadcastTo S256x512 (shapeCast S1x512 (chunkMax X) shapeCasts_S512_S1x512) broadcasts_S1x512_S256x512)) rowsV
      (broadcast S256x512 256#32)) 2147483647#32 reduces_S256x512_S512 rfl) (broadcast S512 off)

/-- A pair of a column maximum and a row number: of two, the second where its maximum is greater, or equal at a
    smaller row. -/
def mergeI (a b : FVec F S512 .f32 × IVec S512 32) : FVec F S512 .f32 × IVec S512 32 :=
  let take := ori (cmpf .ogt b.1 a.1) (andi (cmpf .oeq b.1 a.1) (cmpi .slt b.2 a.2))
  (select take b.1 a.1, select take b.2 a.2)
/-- The same where the row numbers are floats. -/
def mergeF (a b : FVec F S512 .f32 × FVec F S512 .f32) : FVec F S512 .f32 × FVec F S512 .f32 :=
  let take := ori (cmpf .ogt b.1 a.1) (andi (cmpf .oeq b.1 a.1) (cmpf .olt b.2 a.2))
  (select take b.1 a.1, select take b.2 a.2)

/-- A chunk's pair. -/
def chunkPair (X : FVec F S256x512 .f32) (off : BitVec 32) : FVec F S512 .f32 × IVec S512 32 := (chunkMax X, chunkIdx X off)

variable (m : (ℓ : Loc nD τ sig) → Buf (Elt F) ℓ)

theorem chunk_inb (k : Fin 4) : ∀ a, (![256 * k.val, 0] : Fin 2 → Nat) a + S256x512.size a ≤ S1024x512.size a := by revert k; decide

/-- The `k`th quarter of a device's argument. -/
def chunkM (k : Fin 4) : Memref sig .tc .hbm S256x512 .f32 :=
  (Memref.whole main_arg0).slice (Rect.unit (s := S1024x512) ![256 * k.val, 0] S256x512.size (chunk_inb k)) (fun _ => rfl)
/-- Its contents at launch. -/
def chunkV (c : Dev nD) (k : Fin 4) : FVec F S256x512 .f32 := (chunkM k).view.read (Elt F) (m ((c : Thread nD τ).loc main_arg0))

/-- A device's number, as the kernel computes it. -/
def posW (c : Dev nD) : BitVec 32 := Scalar.remsi (Scalar.divsi (Dev.word c) 1#32) 16#32

/-- The device's pair over its four chunks, the row numbers its own. -/
def localPair (c : Dev nD) : FVec F S512 .f32 × IVec S512 32 :=
  mergeI (mergeI (mergeI (chunkPair (chunkV m c 0) 0#32) (chunkPair (chunkV m c 1) 256#32)) (chunkPair (chunkV m c 2) 512#32)) (chunkPair (chunkV m c 3) 768#32)
/-- The same with the row numbers of the whole array, as floats. -/
def own (c : Dev nD) : FVec F S512 .f32 × FVec F S512 .f32 :=
  ((localPair m c).1, sitofp .f32 (addi (localPair m c).2 (broadcast S512 (Scalar.muli (posW c) 1024#32))))

/-- A pair as the two rows of a block. -/
def rows2 (p : FVec F S512 .f32 × FVec F S512 .f32) : FVec F S2x512 .f32 :=
  fun i => if (i 0).val = 0 then p.1 (ix1 (i 1)) else p.2 (ix1 (i 1))

/-- The block device `c` sends to every other. -/
def sentV (c : Dev nD) : FVec F S2x512 .f32 := rows2 (own m c)

/-- Device `c`'s pair after it has merged the first `n` blocks it receives. -/
def acc (c : Dev nD) : ℕ → FVec F S512 .f32 × FVec F S512 .f32
  | 0 => own m c
  | n + 1 => mergeF (acc c n) (own m (peer c (Fin.ofNat 15 n)))

/-- The kernel's result on device `c`. -/
def outV (c : Dev nD) : FVec F S2x512 .f32 := rows2 (acc m c 15)

/-! ## The printed payloads are these -/

section Payloads

variable {L : Vec F S1x256x512 .f32} {X : FVec F S256x512 .f32}

theorem pay2_eq (h : k0_pay1 L = X) : k0_pay2 L = (chunkPair X 0#32).1 := by subst h; dsimp only [k0_pay2, chunkPair, chunkMax]
theorem pay3_eq (h : k0_pay1 L = X) : k0_pay3 rowsV L = (chunkPair X 0#32).2 := by subst h; dsimp only [k0_pay3, k0_pay2, chunkPair, chunkIdx, chunkMax]
theorem pay5_eq (h : k0_pay1 L = X) : k0_pay5 L = (chunkPair X 256#32).1 := by subst h; dsimp only [k0_pay5, k0_pay4, k0_pay1, chunkPair, chunkMax]
theorem pay6_eq (h : k0_pay1 L = X) : k0_pay6 rowsV L = (chunkPair X 256#32).2 := by subst h; dsimp only [k0_pay6, k0_pay5, k0_pay4, k0_pay1, chunkPair, chunkIdx, chunkMax]

variable {L' : Vec F S1x256x512 .f32} {X' : FVec F S256x512 .f32}

/-- The two values the first merge goes on with. -/
theorem pay7_eq (h : k0_pay1 L = X) (h' : k0_pay1 L' = X') :
    k0_pay7 L L' = cmpf .ogt (chunkPair X' 256#32).1 (chunkPair X 0#32).1 := by subst h; subst h'; dsimp only [k0_pay7, k0_pay5, k0_pay4, k0_pay2, k0_pay1, chunkPair, chunkMax]
theorem pay8_eq (h : k0_pay1 L = X) (h' : k0_pay1 L' = X') :
    k0_pay8 rowsV L L' = andi (cmpf .oeq (chunkPair X' 256#32).1 (chunkPair X 0#32).1) (cmpi .slt (chunkPair X' 256#32).2 (chunkPair X 0#32).2) := by
  subst h; subst h'; dsimp only [k0_pay8, k0_pay6, k0_pay3, k0_pay5, k0_pay4, k0_pay2, k0_pay1, chunkPair, chunkMax, chunkIdx]

/-- The first two merges. -/
theorem pay16_eq (a b : FVec F S512 .f32 × IVec S512 32) (h : k0_pay1 L = X) :
    k0_pay16 rowsV a.1 a.2 b.1 b.2 (cmpf .ogt b.1 a.1) (andi (cmpf .oeq b.1 a.1) (cmpi .slt b.2 a.2)) L
      = (mergeI (mergeI a b) (chunkPair X 512#32)).1 := by subst h; dsimp only [k0_pay16, k0_pay15, k0_pay14, k0_pay13, k0_pay12, k0_pay11, k0_pay10, k0_pay9, k0_pay1, mergeI, chunkPair, chunkMax, chunkIdx]
theorem pay17_eq (a b : FVec F S512 .f32 × IVec S512 32) (h : k0_pay1 L = X) :
    k0_pay17 rowsV a.1 a.2 b.1 b.2 (cmpf .ogt b.1 a.1) (andi (cmpf .oeq b.1 a.1) (cmpi .slt b.2 a.2)) L
      = (mergeI (mergeI a b) (chunkPair X 512#32)).2 := by subst h; dsimp only [k0_pay17, k0_pay15, k0_pay14, k0_pay13, k0_pay12, k0_pay11, k0_pay10, k0_pay9, k0_pay1, mergeI, chunkPair, chunkMax, chunkIdx]

/-- The third merge, and the row numbers of the whole array. -/
theorem pay23_eq (a : FVec F S512 .f32 × IVec S512 32) (h : k0_pay1 L = X) :
    k0_pay23 rowsV a.1 a.2 (k0_pay18 L) (k0_pay19 L) (k0_pay20 L) = (mergeI a (chunkPair X 768#32)).1 := by subst h; dsimp only [k0_pay23, k0_pay22, k0_pay21, k0_pay20, k0_pay19, k0_pay18, k0_pay1, mergeI, chunkPair, chunkMax, chunkIdx]
theorem pay24_eq (w : BitVec 32) (a : FVec F S512 .f32 × IVec S512 32) (h : k0_pay1 L = X) :
    k0_pay24 w rowsV a.1 a.2 (k0_pay18 L) (k0_pay19 L) (k0_pay20 L)
      = sitofp .f32 (addi (mergeI a (chunkPair X 768#32)).2 (broadcast S512 (Scalar.muli w 1024#32))) := by subst h; dsimp only [k0_pay24, k0_pay22, k0_pay21, k0_pay20, k0_pay19, k0_pay18, k0_pay1, mergeI, chunkPair, chunkMax, chunkIdx]

end Payloads

end Cert.ArgmaxProof

end
-- ==== Proof.Protocol.lean ====
/-
# The exchange's protocol

Who pays which semaphore, how much, and what a payment hands over. Every semaphore serves one round.

* A device's barrier is paid one unit by each other device. The payer that is `j + 1` places before it — the device it
  will send its block to at step `j` — hands over its landing slot `j`.
* A copy semaphore is paid by the copy that brings a quarter of the argument in.
* A receive semaphore is paid by the transfer that fills the landing slot, with the sender's block in it.
* A send semaphore is paid by the transfer, which gives back its share of the block sent.
-/
module

public import proofs.«01_k».proof.Proof.Values
public import proofs.«01_k».proof.Proof.Gen.KernelIdeal.Launch
public import Idealize.ShloMosaic.Lib.Pipeline.Launch
public import Idealize.ShloMosaic.Lib.Pipeline.Kit
public import Idealize.ShloMosaic.Lib.Transfers
public import Idealize.ShloMosaic.Lib.Tactic

@[expose] public section

noncomputable section

namespace Cert.ArgmaxProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Transfers (shareTok shareDrop)

variable {F : FTy → Type} [FloatOps F]

/-! ## The ghost state: the launch's own rounds, and the exchange's with duties named by steps -/

abbrev UB : Type := URounds (GSem nD τ sig) (Fin 15)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## The buffers -/

abbrev argM : Memref sig .tc .hbm S1024x512 .f32 := Memref.whole main_arg0
abbrev xM : Memref sig .tc .vmem S4x256x512 .f32 := Memref.whole cc0_scratch0
abbrev sendM : Memref sig .tc .vmem S2x512 .f32 := Memref.whole cc0_scratch1
abbrev recvM : Memref sig .tc .vmem S15x2x512 .f32 := Memref.whole cc0_scratch2

theorem xslot_inb (k : Fin 4) : ∀ a, (![k.val, 0, 0] : Fin 3 → Nat) a + S1x256x512.size a ≤ S4x256x512.size a := by revert k; decide
theorem slot_inb (j : Fin 15) : ∀ a, (![j.val, 0, 0] : Fin 3 → Nat) a + S1x2x512.size a ≤ S15x2x512.size a := by revert j; decide
theorem sem4_inb (k : Fin 4) : ∀ a, (![k.val] : Fin 1 → Nat) a + S1.size a ≤ S4.size a := by revert k; decide
theorem sem15_inb (j : Fin 15) : ∀ a, (![j.val] : Fin 1 → Nat) a + S1.size a ≤ S15.size a := by revert j; decide

/-- The `k`th quarter of the copied argument, and the `j`th landing slot. -/
def xslotM (k : Fin 4) : Memref sig .tc .vmem S256x512 .f32 :=
  (xM.slice (Rect.unit (s := S4x256x512) ![k.val, 0, 0] S1x256x512.size (xslot_inb k)) (fun _ => rfl)).squeeze S256x512 squeezes_S1x256x512_S256x512
def slotM (j : Fin 15) : Memref sig .tc .vmem S2x512 .f32 :=
  (recvM.slice (Rect.unit (s := S15x2x512) ![j.val, 0, 0] S1x2x512.size (slot_inb j)) (fun _ => rfl)).squeeze S2x512 squeezes_S1x2x512_S2x512

/-! ## The semaphores -/

abbrev barS : Sem sig := (SemArray.scalar (sig.barrier 0 rfl) : Sems sig S_).sem
def copyS (k : Fin 4) : DmaSem sig := ((cc0_scratch3.slice (Rect.unit (s := S4) ![k.val] S1.size (sem4_inb k))).squeeze S_ squeezes_S1_S_).sem
def sendS (j : Fin 15) : DmaSem sig := ((cc0_scratch4.slice (Rect.unit (s := S15) ![j.val] S1.size (sem15_inb j))).squeeze S_ squeezes_S1_S_).sem
def recvS (j : Fin 15) : DmaSem sig := ((cc0_scratch5.slice (Rect.unit (s := S15) ![j.val] S1.size (sem15_inb j))).squeeze S_ squeezes_S1_S_).sem

/-- A device's semaphores: its barrier, or one of its own — a copy's, a send's, a receive's. -/
abbrev OIx : Type := Fin 4 ⊕ Fin 15 ⊕ Fin 15
abbrev CIx : Type := Unit ⊕ OIx

abbrev osem : OIx → SemLoc sig
  | .inl k => .dma (copyS k)
  | .inr (.inl j) => .dma (sendS j)
  | .inr (.inr j) => .dma (recvS j)
abbrev csem : CIx → SemLoc sig
  | .inl _ => .reg barS
  | .inr i => osem i

/-- Which of them a semaphore is. -/
def kindOf : SemLoc sig → Option CIx
  | .reg s => if s = barS then some (.inl ()) else none
  | .dma q =>
    if h : q.val = 0 then none
    else if h4 : q.val - 1 < 4 then some (.inr (.inl ⟨q.val - 1, h4⟩))
    else if h15 : q.val - 5 < 15 then some (.inr (.inr (.inl ⟨q.val - 5, h15⟩)))
    else if h35 : q.val - 20 < 15 then some (.inr (.inr (.inr ⟨q.val - 20, h35⟩)))
    else none

theorem kindOf_copy : ∀ k : Fin 4, kindOf (.dma (copyS k)) = some (.inr (.inl k)) := by decide
theorem kindOf_send : ∀ j : Fin 15, kindOf (.dma (sendS j)) = some (.inr (.inr (.inl j))) := by decide
theorem kindOf_recv : ∀ j : Fin 15, kindOf (.dma (recvS j)) = some (.inr (.inr (.inr j))) := by decide
theorem kindOf_csem (i : CIx) : kindOf (csem i) = some i := by
  rcases i with _ | k | j | j
  · rfl
  · exact kindOf_copy k
  · exact kindOf_send j
  · exact kindOf_recv j

abbrev cellAt (c : Dev nD) (i : CIx) : GSem nD τ sig := ((c : Thread nD τ), csem i)
abbrev barCell (c : Dev nD) : GSem nD τ sig := cellAt c (.inl ())
abbrev copyCell (c : Dev nD) (k : Fin 4) : GSem nD τ sig := cellAt c (.inr (.inl k))
abbrev sendCell (c : Dev nD) (j : Fin 15) : GSem nD τ sig := cellAt c (.inr (.inr (.inl j)))
abbrev recvCell (c : Dev nD) (j : Fin 15) : GSem nD τ sig := cellAt c (.inr (.inr (.inr j)))

theorem cellAt_injective : Function.Injective (fun ci : Dev nD × CIx => cellAt ci.1 ci.2) := by
  rintro ⟨c, i⟩ ⟨c', i'⟩ h
  have h1 : c = c' := congrArg (fun g : GSem nD τ sig => g.1.1) h
  have h2 : csem i = csem i' := congrArg Prod.snd h
  have h3 : some i = some i' := by rw [← kindOf_csem i, ← kindOf_csem i', h2]
  rw [h1, Option.some.inj h3]

/-- The credit of a landing slot's transfer, and of a quarter's copy. -/
def N : ℕ := (sendM.view).dmaCredit
def N4 : ℕ := (xslotM 0).view.dmaCredit
theorem N_pos : 0 < N := View.dmaCredit_pos _ (by decide)
theorem N4_pos : 0 < N4 := View.dmaCredit_pos _ (by decide)
theorem slot_credit (j : Fin 15) : (slotM j).view.dmaCredit = N := rfl
theorem xslot_credit (k : Fin 4) : (xslotM k).view.dmaCredit = N4 := rfl

/-! ## What the payments hand over -/

def slotPts (c : Dev nD) (j : Fin 15) (f : Buf (Elt F) ((slotM j).view.loc (c : Thread nD τ))) : sProp 𝕄 :=
  (slotM j).view.loc (c : Thread nD τ) ↦[(slotM j).view.set]{fullShare} f
def xslotPts (c : Dev nD) (k : Fin 4) (f : Buf (Elt F) ((xslotM k).view.loc (c : Thread nD τ))) : sProp 𝕄 :=
  (xslotM k).view.loc (c : Thread nD τ) ↦[(xslotM k).view.set]{fullShare} f
def chunkPtsOf (c : Dev nD) (k : Fin 4) (f : Buf (Elt F) ((chunkM k).view.loc (c : Thread nD τ))) : sProp 𝕄 :=
  (chunkM k).view.loc (c : Thread nD τ) ↦[(chunkM k).view.set]{fullShare} f
def chunkPts (c : Dev nD) (k : Fin 4) : sProp 𝕄 := chunkPtsOf c k (m ((c : Thread nD τ).loc main_arg0))
def sendPts (c : Dev nD) (q : PosShare TreeShare) : sProp 𝕄 :=
  sendM.view.loc (c : Thread nD τ) ↦[sendM.view.set]{q} sentV m c

/-- A landing slot of any contents; one that holds the block of the device `j + 1` places after. -/
def slotAny (c : Dev nD) (j : Fin 15) : sProp 𝕄 := iprop(∃ f, slotPts c j f)
def slotFull (c : Dev nD) (j : Fin 15) : sProp 𝕄 := iprop(∃ f, ⌜(slotM j).view.read (Elt F) f = sentV m (peer c j)⌝ ∗ slotPts c j f)
/-- A quarter of the copied argument of any contents; one that holds it. -/
def xslotAny (c : Dev nD) (k : Fin 4) : sProp 𝕄 := iprop(∃ f, xslotPts c k f)
def xslotFull (c : Dev nD) (k : Fin 4) : sProp 𝕄 := iprop(∃ f, ⌜(xslotM k).view.read (Elt F) f = chunkV m c k⌝ ∗ xslotPts c k f)

instance slotPts_storable (c : Dev nD) (j) (f) : BI.Storable (upEmb : UEmb _ 𝕄) (slotPts (F := F) c j f) := by unfold slotPts; infer_instance
instance xslotPts_storable (c : Dev nD) (k) (f) : BI.Storable (upEmb : UEmb _ 𝕄) (xslotPts (F := F) c k f) := by unfold xslotPts; infer_instance
instance chunkPtsOf_storable (c : Dev nD) (k) (f) : BI.Storable (upEmb : UEmb _ 𝕄) (chunkPtsOf (F := F) c k f) := by unfold chunkPtsOf; infer_instance
instance chunkPts_storable (c : Dev nD) (k) : BI.Storable (upEmb : UEmb _ 𝕄) (chunkPts (F := F) m c k) := chunkPtsOf_storable c k _
instance sendPts_storable (c : Dev nD) (q) : BI.Storable (upEmb : UEmb _ 𝕄) (sendPts (F := F) m c q) := by unfold sendPts; infer_instance
instance slotAny_storable (c : Dev nD) (j) : BI.Storable (upEmb : UEmb _ 𝕄) (slotAny (F := F) c j) := by unfold slotAny; infer_instance
instance slotFull_storable (c : Dev nD) (j) : BI.Storable (upEmb : UEmb _ 𝕄) (slotFull (F := F) m c j) := by unfold slotFull; infer_instance
instance xslotFull_storable (c : Dev nD) (k) : BI.Storable (upEmb : UEmb _ 𝕄) (xslotFull (F := F) m c k) := by unfold xslotFull; infer_instance

/-- The share of the block sent that its `j`th transfer takes. -/
abbrev tokShare (j : Fin 15) : PosShare TreeShare := shareTok fullShare 15 j

/-! ## The schedule -/

def dutiesOf : Option CIx → Finset (Fin 15)
  | none => ∅
  | some (.inl _) => Finset.univ
  | some (.inr _) => {0}
def amountOf : Option CIx → ℕ
  | some (.inl _) => 1
  | some (.inr (.inl _)) => N4
  | some (.inr (.inr _)) => N
  | none => 1
def payOf (c : Dev nD) (d : Fin 15) : Option CIx → sProp 𝕄
  | none => iprop(emp)
  | some (.inl _) => slotAny (tgt c d) d
  | some (.inr (.inl k)) => iprop(xslotFull m c k ∗ chunkPts m c k)
  | some (.inr (.inr (.inl j))) => sendPts m c (tokShare j)
  | some (.inr (.inr (.inr j))) => slotFull m c j

theorem amountOf_pos : ∀ o, 0 < amountOf o
  | some (.inl _) => Nat.one_pos
  | some (.inr (.inl _)) => N4_pos
  | some (.inr (.inr _)) => N_pos
  | none => Nat.one_pos

instance payOf_storable (c : Dev nD) (d : Fin 15) : ∀ o, BI.Storable (upEmb : UEmb _ 𝕄) (payOf (F := F) m c d o)
  | none => by unfold payOf; infer_instance
  | some (.inl _) => by unfold payOf; infer_instance
  | some (.inr (.inl _)) => by unfold payOf; infer_instance
  | some (.inr (.inr (.inl _))) => by unfold payOf; infer_instance
  | some (.inr (.inr (.inr _))) => by unfold payOf; infer_instance

def Rd : Rounds.Schedule (GSem nD τ sig) (Fin 15) 𝕄 where
  duties g r := if r = 0 ∧ g.1.2 = .tc then dutiesOf (kindOf g.2) else ∅
  unitless _ := False
  amount g _ _ := amountOf (kindOf g.2)
  payload g _ d := payOf m g.1.1 d (kindOf g.2)
  amount_pos g _ _ _ := amountOf_pos _

instance Rd_payload_storable (g : GSem nD τ sig) (r : ℕ) (d : Fin 15) :
    BI.Storable (upEmb : UEmb _ 𝕄) ((Rd (F := F) m).payload g r d) := payOf_storable m _ _ _

section Sched
variable (c : Dev nD)

theorem duties_at (i : CIx) : (Rd (F := F) m).duties (cellAt c i) 0 = dutiesOf (some i) := by
  dsimp only [Rd]; rw [if_pos ⟨rfl, rfl⟩, kindOf_csem]
theorem duties_later (g : GSem nD τ sig) : ∀ r, 1 ≤ r → (Rd (F := F) m).duties g r = ∅ :=
  fun r hr => by dsimp only [Rd]; rw [if_neg fun h => by omega]
theorem amount_at (i : CIx) (d : Fin 15) : (Rd (F := F) m).amount (cellAt c i) 0 d = amountOf (some i) := by
  dsimp only [Rd]; rw [kindOf_csem]
theorem payload_at (i : CIx) (d : Fin 15) : (Rd (F := F) m).payload (cellAt c i) 0 d = payOf m c d (some i) := by
  dsimp only [Rd]; rw [kindOf_csem]

/-- What a wait on the whole round takes. -/
def expectOf : CIx → ℕ
  | .inl _ => 15
  | .inr (.inl _) => N4
  | .inr (.inr _) => N

theorem expect_at (i : CIx) : (Rd (F := F) m).expect (cellAt c i) 0 = expectOf i := by
  unfold Schedule.expect Schedule.amountOf
  rw [duties_at, Finset.sum_congr rfl fun d _ => amount_at m c i d]
  rcases i with _ | k | j <;> simp [dutiesOf, amountOf, expectOf]

/-- The rest of an own cell's round is its one payload; the barrier's, all fifteen. -/
theorem rest_own (i : OIx) :
    bigSep ((Rd (F := F) m).duties (cellAt c (.inr i)) 0 \ ∅) (fun d => (Rd (F := F) m).payload (cellAt c (.inr i)) 0 d) = payOf m c 0 (some (.inr i)) := by
  rw [Finset.sdiff_empty, duties_at, show dutiesOf (some (.inr i)) = {0} from rfl, bigSep_singleton, payload_at]
theorem rest_bar :
    bigSep ((Rd (F := F) m).duties (barCell c) 0 \ ∅) (fun d => (Rd (F := F) m).payload (barCell c) 0 d)
      = bigSep Finset.univ fun j : Fin 15 => (slotAny (tgt c j) j : sProp 𝕄) := by
  rw [Finset.sdiff_empty, duties_at]
  exact bigSep_congr fun d _ => payload_at m c _ d

end Sched

/-! ## What each device owes, and the levels the waits go by -/

/-- The receive credits still owed from step `n` on, and the barrier units. -/
def ORecv (c : Dev nD) (n : ℕ) : CellTallies nD τ sig Unit :=
  ∑ j ∈ Finset.univ.filter (fun j : Fin 15 => n ≤ j.val), tallyAt (recvCell (tgt c j) j) () N
def OBar (c : Dev nD) (n : ℕ) : CellTallies nD τ sig Unit :=
  ∑ j ∈ Finset.univ.filter (fun j : Fin 15 => n ≤ j.val), tallyAt (barCell (peer c j)) () 1
def O₀ (c : Dev nD) : CellTallies nD τ sig Unit := ORecv c 0 + OBar c 0

theorem filter_step (n : Fin 15) : Finset.univ.filter (fun j : Fin 15 => n.val ≤ j.val) = insert n (Finset.univ.filter (fun j : Fin 15 => n.val + 1 ≤ j.val)) := by
  ext j; simp only [Finset.mem_filter, Finset.mem_univ, true_and, Finset.mem_insert, Fin.ext_iff]; omega
theorem filter_last : Finset.univ.filter (fun j : Fin 15 => 15 ≤ j.val) = ∅ := by decide

theorem ORecv_step (c : Dev nD) (n : Fin 15) : ORecv c n.val = ORecv c (n.val + 1) + tallyAt (recvCell (tgt c n) n) () N := by
  unfold ORecv; rw [filter_step, Finset.sum_insert (by simp), add_comm]
theorem OBar_step (c : Dev nD) (n : Fin 15) : OBar c n.val = OBar c (n.val + 1) + tallyAt (barCell (peer c n)) () 1 := by
  unfold OBar; rw [filter_step, Finset.sum_insert (by simp), add_comm]
theorem ORecv_last (c : Dev nD) : ORecv c 15 = 0 := by unfold ORecv; rw [filter_last, Finset.sum_empty]
theorem OBar_last (c : Dev nD) : OBar c 15 = 0 := by unfold OBar; rw [filter_last, Finset.sum_empty]

def L (g : GSem nD τ sig) : Finset Unit := if g.1.2 = .tc then {()} else ∅
/-- A receive semaphore is above the barrier, the barrier above the rest. -/
def lvOf : Option CIx → ℕ
  | some (.inl _) => 1
  | some (.inr (.inr (.inr _))) => 2
  | _ => 0
def lv (g : GSem nD τ sig) (_ : Unit) : ℕ := lvOf (kindOf g.2)

theorem L_of_ne (g : GSem nD τ sig) (h : g.1.2 ≠ .tc) : L g = ∅ := if_neg h
theorem L_tc (c : Dev nD) (sm : SemLoc sig) : L ((c : Thread nD τ), sm) = {()} := if_pos rfl
theorem lv_at (c : Dev nD) (i : CIx) : lv (cellAt c i) () = lvOf (some i) := by unfold lv; rw [kindOf_csem]

/-- A sum of tallies that is positive somewhere has a summand that is. -/
theorem sum_tally_pos {ι : Type} (S : Finset ι) (g' : ι → GSem nD τ sig) (k : ι → ℕ) {g : GSem nD τ sig} {u : Unit}
    (h : 0 < (∑ j ∈ S, (tallyAt (g' j) () (k j) : CellTallies nD τ sig Unit)) g u) : ∃ j ∈ S, g = g' j := by
  classical
  by_contra hn
  have : ∀ j ∈ S, (tallyAt (g' j) () (k j) : CellTallies nD τ sig Unit) g u = 0 := fun j hj => by
    rw [tallyAt_apply, if_neg]; exact fun h' => hn ⟨j, hj, h'.1⟩
  rw [Finset.sum_apply, Finsupp.finset_sum_apply, Finset.sum_congr rfl this, Finset.sum_const_zero] at h
  exact Nat.lt_irrefl 0 h

theorem ORecv_pos {c : Dev nD} {n : ℕ} {g : GSem nD τ sig} {u : Unit} (h : 0 < ORecv c n g u) : ∃ j, g = recvCell (tgt c j) j :=
  (sum_tally_pos _ _ _ h).imp fun _ h => h.2
theorem O₀_pos {c : Dev nD} {g : GSem nD τ sig} {u : Unit} (h : 0 < O₀ c g u) :
    (∃ j, g = recvCell (tgt c j) j) ∨ ∃ j, g = barCell (peer c j) := by
  unfold O₀ at h
  rw [Pi.add_apply, Finsupp.add_apply] at h
  rcases Nat.eq_zero_or_pos (ORecv c 0 g u) with h0 | h0
  · rw [h0, Nat.zero_add] at h
    exact Or.inr ((sum_tally_pos _ _ _ h).imp fun _ h => h.2)
  · exact Or.inl (ORecv_pos h0)

/-- A wait on a semaphore below the receives is in order while receive credits are owed. -/
theorem mayWait_recv (c : Dev nD) (n : ℕ) (sm : SemLoc sig) (hlv : lvOf (kindOf sm) ≤ 1) :
    (levAts L lv : sProp 𝕄) ⊢ MayWait (c : Thread nD τ) sm () (ORecv c n) :=
  MayOwe.of_cut (L := L) (lev := lv) 1 (fun p hp => by rw [Finset.mem_singleton.mp hp, L_tc]; exact Finset.mem_singleton_self _)
    (fun g u hg => by obtain ⟨j, rfl⟩ := ORecv_pos hg; rw [L_tc]; exact Finset.mem_singleton_self _)
    (fun p hp => by rw [Finset.mem_singleton.mp hp]; exact hlv)
    (fun g u hg => by obtain ⟨j, rfl⟩ := ORecv_pos hg; rw [lv_at]; exact Nat.one_lt_two)

/-- A wait on a semaphore that is none of the exchange's is in order at the start and at the end. -/
theorem mayWait_stage (c : Dev nD) (sm : SemLoc sig) (hlv : lvOf (kindOf sm) = 0) (O : CellTallies nD τ sig Unit) (hO : O = O₀ c ∨ O = 0) :
    (levAts L lv : sProp 𝕄) ⊢ MayWait (c : Thread nD τ) sm () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨j, rfl⟩ | ⟨j, rfl⟩ <;> exact Finset.mem_singleton_self _)
      (fun p hp => by rw [Finset.mem_singleton.mp hp]; exact le_of_eq hlv)
      (fun g u hg => by
        rcases O₀_pos hg with ⟨j, rfl⟩ | ⟨j, rfl⟩ <;> rw [lv_at] <;> simp only [lvOf] <;> decide)
  · rw [MayWait_zero]; iintro -; iempintro

end Cert.ArgmaxProof

end
-- ==== Proof.Steps.lean ====
/-
# The steps of the exchange

One lemma for each kind of operation the kernel repeats: a signal, a copy's start and its wait, a transfer's start and
its two waits, the loads. Each takes the state of its stage before step `j` to the state after it.
-/
module

public import proofs.«01_k».proof.Proof.Protocol

@[expose] public section

noncomputable section

namespace Cert.ArgmaxProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix1 ix2 ix3)

variable {F : FTy → Type} [FloatOps F]

local notation "𝕄" => MT nD τ sig Unit (Elt F) ℕ UU ℕ

variable (m : (ℓ : Loc nD τ sig) → Buf (Elt F) ℓ)

abbrev 𝒱₀ : Variants := Variants.none

/-! ## A family of steps, the first `i` of them done -/

def St {n : ℕ} (Φ Ψ : Fin n → sProp 𝕄) (i : ℕ) : sProp 𝕄 := bigSep Finset.univ fun j : Fin n => if j.val < i then Ψ j else Φ j

theorem St_zero {n : ℕ} (Φ Ψ : Fin n → sProp 𝕄) : St Φ Ψ 0 = bigSep Finset.univ Φ :=
  bigSep_congr fun j _ => if_neg (Nat.not_lt_zero _)
theorem St_full {n : ℕ} (Φ Ψ : Fin n → sProp 𝕄) : St Φ Ψ n = bigSep Finset.univ Ψ :=
  bigSep_congr fun j _ => if_pos j.isLt

/-- Step `j`: what it starts from comes out, what it leaves goes in. -/
theorem St_step {n : ℕ} (Φ Ψ : Fin n → sProp 𝕄) (j : Fin n) : St Φ Ψ j.val ⊢ iprop(Φ j ∗ (Ψ j -∗ St Φ Ψ (j.val + 1))) := by
  unfold St
  rw [bigSep_univ_at _ j, bigSep_univ_at (fun i : Fin n => if i.val < j.val + 1 then Ψ i else Φ i) j, if_neg (Nat.lt_irrefl _), if_pos (Nat.lt_succ_self _),
    bigSep_congr (s := Finset.univ.erase j) (Φ := fun i : Fin n => if i.val < j.val + 1 then Ψ i else Φ i) (Ψ := fun i : Fin n => if i.val < j.val then Ψ i else Φ i)
      fun i hi => by
        have : i.val ≠ j.val := fun h => (Finset.mem_erase.mp hi).1 (Fin.ext h)
        by_cases h : i.val < j.val
        · rw [if_pos h, if_pos (by omega)]
        · rw [if_neg h, if_neg (by omega)]]
  iintro ⟨H, HR⟩
  isplitl [H]; · iexact H
  iintro HΨ
  isplitl [HΨ] <;> iassumption

/-- What a step done has left, to look at and put back. -/
theorem St_peek {n : ℕ} (Φ Ψ : Fin n → sProp 𝕄) (j : Fin n) {i : ℕ} (h : j.val < i) : St Φ Ψ i ⊢ iprop(Ψ j ∗ (Ψ j -∗ St Φ Ψ i)) := by
  unfold St
  rw [bigSep_univ_at _ j, if_pos h]
  iintro ⟨H, HR⟩
  isplitl [H]; · iexact H
  iintro HΨ
  isplitl [HΨ] <;> iassumption

/-! ## What every step may use -/

/-- Every semaphore's invariant, that every one is at its round, and the levels. -/
def recs (K : Dev nD × CIx → ℕ) : sProp 𝕄 :=
  iprop(((bigSep Finset.univ fun ci : Dev nD × CIx => cellInv ER (Rd m) (K ci) (cellAt ci.1 ci.2))
    ∗ bigSep Finset.univ fun ci : Dev nD × CIx => reached ER (cellAt ci.1 ci.2) 0) ∗ levAts L lv)

instance recs_persistent (K : Dev nD × CIx → ℕ) : BI.Persistent (recs (F := F) m K) := by unfold recs; infer_instance

variable (K : Dev nD × CIx → ℕ)

theorem recs_inv (c : Dev nD) (i : CIx) : recs m K ⊢ (cellInv ER (Rd m) (K (c, i)) (cellAt c i) : sProp 𝕄) :=
  (sep_elim_left (PROP := sProp 𝕄)).trans ((sep_elim_left (PROP := sProp 𝕄)).trans (bigSep_elim (Finset.mem_univ (c, i))))
theorem recs_reached (c : Dev nD) (i : CIx) : recs m K ⊢ (reached ER (cellAt c i) 0 : sProp 𝕄) :=
  (sep_elim_left (PROP := sProp 𝕄)).trans ((sep_elim_right (PROP := sProp 𝕄)).trans (bigSep_elim (Finset.mem_univ (c, i))))
theorem recs_may {P : sProp 𝕄} (h : (levAts L lv : sProp 𝕄) ⊢ P) : recs m K ⊢ P := by
  unfold recs
  iintro ⟨-, #H⟩
  iapply h
  iexact H

theorem mem_duty (c : Dev nD) (i : CIx) (d : Fin 15) (h : d ∈ dutiesOf (some i)) : d ∈ (Rd (F := F) m).duties (cellAt c i) 0 := by
  rw [duties_at]; exact h

/-- A core's debt, whatever waits it has recorded. -/
def Ow (c : Dev nD) (O : CellTallies nD τ sig Unit) : sProp 𝕄 := iprop(∃ W, owes (c : Thread nD τ) O W)

section Steps
/-- The weakest precondition of a part of the kernel on device `c`. -/
abbrev wpc (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

variable (c : Dev nD) {α : Type} {k : PUnit → Prog (TpuEff nD τ sig (Elt F) Λ₀ .tc) α}

/-! ## The signals -/

/-- Before the `n`th signal: the slots still to hand over, with the tokens, and the debt. -/
def SigSt (n : ℕ) : sProp 𝕄 :=
  iprop(St (fun j : Fin 15 => iprop(dutyTok ER (barCell (peer c j)) 0 j ∗ slotAny c j)) (fun _ => iprop(emp)) n ∗ Ow c (ORecv c 0 + OBar c n))

theorem wp_sig {Q : α → sProp 𝕄} (j : Fin 15) {n : Dev nD} (hn : n = peer c j) {z : ℤ} (hz : z = (1 : ℕ)) :
    iprop(recs m K ∗ SigSt c j.val)
      ⊢ iprop((SigSt c (j.val + 1) -∗ wpc c (k ⟨⟩) Q) -∗ wpc c (.op (.semSignal (n : Thread nD τ) barS z) k) Q) := by
  subst hn; subst hz
  unfold SigSt Ow
  iintro ⟨#HR, HS, %W, HO⟩ Hk
  ihave H := (St_step _ _ j) $$ HS
  icases H with ⟨⟨Ht, Hs⟩, Hback⟩
  iapply (Rounds.wp_signal 𝒱₀ ER (Rd m) (c : Thread nD τ) none (dst := (peer c j : Thread nD τ)) (κ := K (peer c j, .inl ()))
      (d := j) (mem_duty m (peer c j) (.inl ()) j (Finset.mem_univ _)) (k' := 1) (amount_at m (peer c j) (.inl ()) j) () (O₀ := ORecv c 0 + OBar c j.val) (ORecv c 0 + OBar c (j.val + 1))
      (by rw [OBar_step, ← add_assoc])) $$ [HO Ht Hs]
  · isplitr; · iapply (recs_inv m K (peer c j) (.inl ())); iexact HR
    isplitl [HO]; · iexact HO
    isplitl [Ht]; · iexact Ht
    isplitl [Hs]
    · rw [payload_at m (peer c j) (.inl ())]; unfold payOf; rw [tgt_peer]; iexact Hs
    iapply (recs_reached m K (peer c j) (.inl ())); iexact HR
  iintro HO
  iapply Hk
  isplitl [Hback]
  · iapply Hback; iempintro
  iexists W; iexact HO

/-! ## Waits on the device's own semaphores -/

/-- A wait that takes an own semaphore's whole round: its payload, and the semaphore back at zero. -/
theorem wait_own {Q : α → sProp 𝕄} (i : OIx) (O : CellTallies nD τ sig Unit) (hO : (levAts L lv : sProp 𝕄) ⊢ MayWait (c : Thread nD τ) (osem i) () O)
    {w : TpuEff nD τ sig (Elt F) Λ₀ .tc PUnit} {a : ℕ}
    (hw : ∀ Kt : PUnit → sProp 𝕄, wpE (defs₀ (F := F)) 𝒱₀ (c : Thread nD τ) none Set.univ w Kt = waitSpec (c : Thread nD τ) Set.univ (osem i) a Kt)
    (ha : a = expectOf (.inr i)) :
    iprop(recs m K ∗ (cred (tallyAt (cellAt c (.inr i)) () (expectOf (.inr i))) ∗ atPos ER (cellAt c (.inr i)) 0 ∅ 0) ∗ Ow c O)
      ⊢ iprop(((payOf m c 0 (some (.inr i)) ∗ semVal (cellAt c (.inr i)) 0) -∗ Ow c O -∗ wpc c (k ⟨⟩) Q) -∗ wpc c (.op w k) Q) := by
  subst ha
  unfold Ow
  iintro ⟨#HR, ⟨Hc, Hat⟩, %W, HO⟩ Hk
  iapply (Rounds.wp_wait_rest_token 𝒱₀ ER (Rd m) (c : Thread nD τ) none (κ := K (c, .inr i)) hw (Set.mem_univ _) () (O := O) (W := W) (R := 0) (m := 0) (T := ∅)
      ((Nat.zero_add _).trans (expect_at m c (.inr i)).symm)) $$ [Hc HO Hat]
  · isplitr; · iapply (recs_inv m K c (.inr i)); iexact HR
    isplitl [Hc]; · iexact Hc
    isplitl [HO]; · iexact HO
    isplitr; · iapply (recs_may m K hO); iexact HR
    iexact Hat
  iintro ⟨HO, Hat, -, Hpay⟩
  ihave Hp := (Entails.of_eq (rest_own m c i)) $$ Hpay
  imod (Rounds.cell_close ER (Rd m) (Set.mem_univ (K (c, .inr i))) (fun h => h) (R := 0 + 1) (duties_later m (cellAt c (.inr i)))) $$ [Hat] with Hz
  · isplitr; · iapply (recs_inv m K c (.inr i)); iexact HR
    iexact Hat
  iapply Hk $$ [Hp Hz]
  · isplitl [Hp] <;> iassumption
  iexists _; iexact HO

/-- The wait for all fifteen units of the barrier: every slot this device's block goes to. -/
theorem wp_bar {Q : α → sProp 𝕄} {z : ℤ} (hz : z = (15 : ℕ)) :
    iprop(recs m K ∗ (cred (tallyAt (barCell c) () 15) ∗ atPos ER (barCell c) 0 ∅ 0) ∗ Ow c (ORecv c 0))
      ⊢ iprop((((bigSep Finset.univ fun j : Fin 15 => slotAny (tgt c j) j) ∗ semVal (barCell c) 0) -∗ Ow c (ORecv c 0) -∗ wpc c (k ⟨⟩) Q)
        -∗ wpc c (.op (.semWait barS z) k) Q) := by
  subst hz
  unfold Ow
  iintro ⟨#HR, ⟨Hc, Hat⟩, %W, HO⟩ Hk
  iapply (Rounds.wp_wait_rest_token 𝒱₀ ER (Rd m) (c : Thread nD τ) none (κ := K (c, .inl ())) (wpE_semWait_eq 𝒱₀ (c : Thread nD τ) none Set.univ)
      (Set.mem_univ _) () (O := ORecv c 0) (W := W) (R := 0) (m := 0) (T := ∅)
      ((Nat.zero_add _).trans (expect_at m c (.inl ())).symm)) $$ [Hc HO Hat]
  · isplitr; · iapply (recs_inv m K c (.inl ())); iexact HR
    isplitl [Hc]; · iexact Hc
    isplitl [HO]; · iexact HO
    isplitr; · iapply (recs_may m K (mayWait_recv c 0 (.reg barS) (le_of_eq rfl))); iexact HR
    iexact Hat
  iintro ⟨HO, Hat, -, Hpay⟩
  ihave Hp := (Entails.of_eq (rest_bar m c)) $$ Hpay
  imod (Rounds.cell_close ER (Rd m) (Set.mem_univ (K (c, .inl ()))) (fun h => h) (R := 0 + 1) (duties_later m (barCell c))) $$ [Hat] with Hz
  · isplitr; · iapply (recs_inv m K c (.inl ())); iexact HR
    iexact Hat
  iapply Hk $$ [Hp Hz]
  · isplitl [Hp] <;> iassumption
  iexists _; iexact HO

/-! ## The copies of the argument -/

/-- Before the `n`th copy starts; before the `n`th is waited for. -/
def CopySt (n : ℕ) : sProp 𝕄 :=
  St (fun k : Fin 4 => iprop(chunkPts m c k ∗ xslotAny c k ∗ dutyTok ER (copyCell c k) 0 0)) (fun k => cred (tallyAt (copyCell c k) () N4)) n
def CWaitSt (n : ℕ) : sProp 𝕄 :=
  iprop(St (fun k : Fin 4 => iprop(cred (tallyAt (copyCell c k) () N4) ∗ atPos ER (copyCell c k) 0 ∅ 0))
    (fun k => iprop((xslotFull m c k ∗ chunkPts m c k) ∗ semVal (copyCell c k) 0)) n ∗ Ow c (ORecv c 0))

/-- A chunk written to its slot, with the chunk, is what the copy's semaphore hands over. -/
theorem copy_pay (i : Fin 4) (f : Buf (Elt F) ((xslotM i).view.loc (c : Thread nD τ))) :
    iprop(((xslotM i).view.loc (c : Thread nD τ) ↦[(xslotM i).view.set]{fullShare}
        ((xslotM i).view.write (Elt F) f ((chunkM i).view.read (Elt F) (m ((c : Thread nD τ).loc main_arg0))) Finset.univ))
      ∗ ((chunkM i).view.loc (c : Thread nD τ) ↦[(chunkM i).view.set]{fullShare} m ((c : Thread nD τ).loc main_arg0)))
    ⊢ (Rd (F := F) m).payload (copyCell c i) 0 0 := by
  rw [show copyCell c i = cellAt c (.inr (.inl i)) from rfl, payload_at m c (.inr (.inl i))]; unfold payOf xslotFull xslotPts chunkPts chunkPtsOf
  iintro ⟨H1, H2⟩
  isplitl [H1]
  · iexists ((xslotM i).view.write (Elt F) f ((chunkM i).view.read (Elt F) (m ((c : Thread nD τ).loc main_arg0))) Finset.univ)
    isplitr
    · ipureintro; exact View.read_write_univ _ _
    iexact H1
  iexact H2

theorem wp_copyStart {Q : α → sProp 𝕄} (i : Fin 4) {src : Memref sig .tc .hbm S256x512 .f32} {dst : Memref sig .tc .vmem S256x512 .f32} {sem : DmaSem sig}
    (hs : src = chunkM i) (hd : dst = xslotM i) (hsem : sem = copyS i)
    {hsrc : src.view.WordExact} {hdst : dst.view.WordExact} {hty : DmaTarget.Typed (nD := nD) .hbm (.dma sem) (DmaTarget.here (p := (c : Thread nD τ).2) dst)} :
    iprop(recs m K ∗ CopySt m c i.val)
      ⊢ iprop((CopySt m c (i.val + 1) -∗ wpc c (k ⟨⟩) Q) -∗ wpc c (.op (.enqueueDma src (.here dst) (.dma sem) hsrc hdst hty) k) Q) := by
  subst hs; subst hd; subst hsem
  unfold CopySt
  iintro ⟨#HR, HS⟩ Hk
  ihave H := (St_step _ _ i) $$ HS
  unfold xslotAny xslotPts chunkPts chunkPtsOf
  icases H with ⟨⟨Hc, ⟨%f, Hx⟩, Ht⟩, Hback⟩
  iapply (Rounds.wp_copy_pointsTo 𝒱₀ ER (Rd m) (c : Thread nD τ) none (κ := K (c, .inr (.inl i))) (r := 0) (d := 0) (src := chunkM i) (dst := xslotM i)
      (sem := .dma (copyS i)) (q := fullShare) (fs := m ((c : Thread nD τ).loc main_arg0)) (fd := f)
      (mem_duty m c (.inr (.inl i)) 0 (Finset.mem_singleton_self _)) () N4 (xslot_credit i) (amount_at m c (.inr (.inl i)) 0)
      (copy_pay m c i f)) $$ [Hc Hx Ht]
  · isplitr; · iapply (recs_inv m K c (.inr (.inl i))); iexact HR
    isplitl [Hc]; · iexact Hc
    isplitl [Hx]; · iexact Hx
    isplitl [Ht]; · iexact Ht
    iapply (recs_reached m K c (.inr (.inl i))); iexact HR
  iintro Hcr
  iapply Hk; iapply Hback; iexact Hcr

theorem hlv_copy (i : Fin 4) : lvOf (kindOf (.dma (copyS i))) ≤ 1 := by rw [kindOf_copy]; exact Nat.zero_le _

theorem wp_copyWait {Q : α → sProp 𝕄} (i : Fin 4) {src : Memref sig .tc .hbm S256x512 .f32} {dst : Memref sig .tc .vmem S256x512 .f32} {sem : DmaSem sig}
    (hsem : sem = copyS i) (hcr : dst.view.dmaCredit = N4) {hsrc : src.view.WordExact} {hdst : dst.view.WordExact} :
    iprop(recs m K ∗ CWaitSt m c i.val)
      ⊢ iprop((CWaitSt m c (i.val + 1) -∗ wpc c (k ⟨⟩) Q) -∗ wpc c (.op (.waitDma2 sem src dst hsrc hdst) k) Q) := by
  subst hsem
  unfold CWaitSt
  iintro ⟨#HR, HS, HO⟩ Hk
  ihave H := (St_step _ _ i) $$ HS
  icases H with ⟨H, Hback⟩
  iapply (wait_own m K c (.inl i) (ORecv c 0) (mayWait_recv c 0 _ (hlv_copy i))
    (wpE_waitDma2_eq 𝒱₀ (c : Thread nD τ) none Set.univ) hcr) $$ [H HO]
  · isplitr; · iexact HR
    isplitl [H]; · iexact H
    iexact HO
  iintro H HO
  iapply Hk
  isplitl [Hback H]
  · iapply Hback; iexact H
  iexact HO

/-- A load of a quarter that has come in. -/
theorem wp_loadX (i : Fin 4) (n : ℕ) (hin : i.val < n) {α : Type} {Q : α → sProp 𝕄} {off : Fin 3 → ℕ} (hoff : off = ![i.val, 0, 0])
    {hinb : ∀ a, off a + S1x256x512.size a ≤ S4x256x512.size a}
    {hl : xM.view.LoadsAt (Rect.unit (s := S4x256x512) off S1x256x512.size hinb).toLoadRect}
    {k : Vec F S1x256x512 .f32 → Prog (TpuEff nD τ sig (Elt F) Λ₀ .tc) α} :
    iprop(CWaitSt m c n)
      ⊢ iprop((∀ L : Vec F S1x256x512 .f32, ⌜k0_pay1 L = chunkV m c i⌝ -∗ CWaitSt m c n -∗ wpc c (k L) Q)
        -∗ wpc c (.op (.load xM (Rect.unit (s := S4x256x512) off S1x256x512.size hinb).toLoadRect hl) k) Q) := by
  subst hoff
  unfold CWaitSt
  iintro ⟨HS, HO⟩ Hk
  ihave H := (St_peek _ _ i hin) $$ HS
  unfold xslotFull xslotPts
  icases H with ⟨⟨⟨⟨%f, %hf, Hx⟩, Hc⟩, Hz⟩, Hback⟩
  have hloc : ((xM.access (Rect.unit (s := S4x256x512) ![i.val, 0, 0] S1x256x512.size (xslot_inb i))).loc (c : Thread nD τ) ↦[(xslotM i).view.set]{fullShare} f : sProp 𝕄)
    = ((xslotM i).view.loc (c : Thread nD τ) ↦[(xslotM i).view.set]{fullShare} f) := rfl
  ihave Hx := (Entails.of_eq hloc.symm) $$ Hx
  iapply (wp_load_rect 𝒱₀ (c : Thread nD τ) none Set.univ (m := xM) (r := Rect.unit (s := S4x256x512) ![i.val, 0, 0] S1x256x512.size (xslot_inb i))
    (S := (xslotM i).view.set) (f := f) (q := fullShare) (by unfold xslotM; exact (View.set_reshape _ _).ge)) $$ Hx
  iintro Hx
  iapply Hk
  · ipureintro; rw [← hf]; rfl
  isplitl [Hback Hx Hc Hz]
  · iapply Hback
    isplitl [Hx Hc]
    · isplitl [Hx]
      · iexists f; isplitr
        · ipureintro; exact hf
        iexact Hx
      iexact Hc
    iexact Hz
  iexact HO

end Steps

end Cert.ArgmaxProof

end
-- ==== Proof.Xfer.lean ====
/-
# The steps of the exchange: the blocks sent and received

The block a device sends is stored row by row and read by all of its transfers at once, a share each. A landed block
is read row by row. The waits for the transfers' departures give the shares back.
-/
module

public import proofs.«01_k».proof.Proof.Steps
public import Idealize.ShloMosaic.Lib.ValueLayout

@[expose] public section

noncomputable section

namespace Cert.ArgmaxProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix1 ix2 ix3)
open Idealize.ShloMosaic.Transfers (shareTok shareDrop)

variable {F : FTy → Type} [FloatOps F]

local notation "𝕄" => MT nD τ sig Unit (Elt F) ℕ UU ℕ

variable (m : (ℓ : Loc nD τ sig) → Buf (Elt F) ℓ)

variable (K : Dev nD × CIx → ℕ) (c : Dev nD)

/-! ## Rows -/

theorem row_inb (r : Fin 2) : ∀ a, (![r.val, 0] : Fin 2 → Nat) a + S1x512.size a ≤ S2x512.size a := by revert r; decide
theorem slotRow_inb (j : Fin 15) (r : Fin 2) : ∀ a, (![j.val, r.val, 0] : Fin 3 → Nat) a + S1x1x512.size a ≤ S15x2x512.size a := by revert j r; decide

/-- Row `r` of a block, and row `r` of landing slot `j`. -/
abbrev rowR (r : Fin 2) : Rect S2x512 := Rect.unit (s := S2x512) ![r.val, 0] S1x512.size (row_inb r)
abbrev slotRowR (j : Fin 15) (r : Fin 2) : Rect S15x2x512 := Rect.unit (s := S15x2x512) ![j.val, r.val, 0] S1x1x512.size (slotRow_inb j r)

/-- The row of 512 that a load of one row of a slot gives. -/
abbrev rowOf (L : Vec F S1x1x512 .f32) : FVec F S512 .f32 := shapeCast S512 L shapeCasts_S1x1x512_S512

/-- A pair's `r`th vector. -/
def nth (p : FVec F S512 .f32 × FVec F S512 .f32) (r : Fin 2) : FVec F S512 .f32 := if r.val = 0 then p.1 else p.2

theorem rows2_ix2 (p : FVec F S512 .f32 × FVec F S512 .f32) (r : Fin 2) (l : Fin 512) : rows2 p (ix2 r l) = nth p r (ix1 l) := by
  unfold rows2 nth
  show (if r.val = 0 then _ else _) = _
  split <;> rfl

theorem rowR_emb (r : Fin 2) (z : Fin 1) (l : Fin 512) : (rowR r).emb (ix2 z l) = ix2 r l := by
  funext a
  refine Fin.ext ?_
  have hz := Fin.val_eq_zero z
  match a with
  | ⟨0, _⟩ => show r.val + 1 * z.val = r.val; omega
  | ⟨1, _⟩ => show 0 + 1 * l.val = l.val; omega

/-- Both rows of a block written: it reads the pair. -/
theorem two_rows (M : Memref sig .tc .vmem S2x512 .f32) (f : M.view.ty.Contents (Elt F)) (p : FVec F S512 .f32 × FVec F S512 .f32) :
    M.view.read (Elt F) ((M.access (rowR 1)).write (Elt F) ((M.access (rowR 0)).write (Elt F) f (shapeCast S1x512 p.1 shapeCasts_S512_S1x512) Finset.univ)
      (shapeCast S1x512 p.2 shapeCasts_S512_S1x512) Finset.univ) = rows2 p := by
  funext y
  obtain ⟨r, l, rfl⟩ : ∃ (r : Fin 2) (l : Fin 512), y = ix2 r l := ⟨y 0, y 1, by funext a; match a with | ⟨0, _⟩ => rfl | ⟨1, _⟩ => rfl⟩
  rw [rows2_ix2]
  have h0 : ∀ l' : Fin 512, (ix2 (0 : Fin 2) l' : S2x512.Idx) ∉ (Finset.univ : Finset (rowR 1).shape.Idx).map (rowR 1).emb := by
    intro l' hm
    obtain ⟨x, -, hx⟩ := Finset.mem_map.mp hm
    have := congrArg (fun q : S2x512.Idx => (q 0).val) hx
    have h1 : ((rowR 1).emb x 0).val = 1 + 1 * (x 0).val := rfl
    have h2 : ((ix2 (0 : Fin 2) l' : S2x512.Idx) 0).val = 0 := rfl
    simp only [h1, h2] at this
    omega
  match r with
  | ⟨0, _⟩ =>
    refine (View.read_slice_write_of_not_mem (rowR 1) _ _ _ (h0 l)).trans ?_
    rw [show (ix2 (0 : Fin 2) l : S2x512.Idx) = (rowR 0).emb (ix2 (0 : Fin 1) l) from (rowR_emb 0 0 l).symm]
    refine (View.read_slice_write_emb (rowR 0) _ _ (Finset.mem_univ _)).trans ?_
    exact ValueIdx.shapeCast_a_1a_apply p.1 _ 0 l
  | ⟨1, _⟩ =>
    show View.read _ _ _ (ix2 (1 : Fin 2) l) = _
    rw [show (ix2 (1 : Fin 2) l : S2x512.Idx) = (rowR 1).emb (ix2 (0 : Fin 1) l) from (rowR_emb 1 0 l).symm]
    refine (View.read_slice_write_emb (rowR 1) _ _ (Finset.mem_univ _)).trans ?_
    exact ValueIdx.shapeCast_a_1a_apply p.2 _ 0 l

/-- One row of a slot, read: the slot's block at that row. -/
theorem slot_row (j : Fin 15) (r : Fin 2) (f : recvM.view.ty.Contents (Elt F)) (p : FVec F S512 .f32 × FVec F S512 .f32)
    (hf : (slotM j).view.read (Elt F) f = rows2 p) :
    rowOf ((recvM.access (slotRowR j r)).read (Elt F) f) = nth p r := by
  funext y
  obtain ⟨l, rfl⟩ : ∃ l : Fin 512, y = ix1 l := ⟨y 0, by funext a; match a with | ⟨0, _⟩ => rfl⟩
  rw [← rows2_ix2, ← hf]
  unfold rowOf
  rw [shapeCast_apply _ _ (ix1 l) (ix3 (0 : Fin 1) (0 : Fin 1) l) (by
    rw [Shape.rowMajor_val_three, Shape.rowMajor_val_one]; show (0 * 1 + 0) * 512 + l.val = l.val; omega)]
  refine (congrArg f ?_ : f ((recvM.access (slotRowR j r)).emb (ix3 (0 : Fin 1) (0 : Fin 1) l)) = f ((slotM j).view.emb (ix2 r l)))
  show (slotRowR j r).emb (ix3 (0 : Fin 1) (0 : Fin 1) l)
    = (Rect.unit (s := S15x2x512) ![j.val, 0, 0] S1x2x512.size (slot_inb j)).emb (Shape.reshapeEquiv _ (ix2 r l))
  rw [ValueIdx.reshapeEquiv_ix2_1ab]
  funext a
  refine Fin.ext ?_
  match a with
  | ⟨0, _⟩ => rfl
  | ⟨1, _⟩ => show r.val + 1 * 0 = 0 + 1 * r.val; omega
  | ⟨2, _⟩ => rfl

theorem slot_row_subset (j : Fin 15) (r : Fin 2) : (recvM.access (slotRowR j r)).set ⊆ (slotM j).view.set := by
  have h2 : (slotM j).view.set = (recvM.view.slice (Rect.unit (s := S15x2x512) ![j.val, 0, 0] S1x2x512.size (slot_inb j))).set := by
    unfold slotM; exact View.set_reshape _ _
  rw [h2]
  intro x hx
  obtain ⟨y, -, rfl⟩ := Finset.mem_map.mp hx
  obtain ⟨a, b, l, rfl⟩ : ∃ (a b : Fin 1) (l : Fin 512), y = ix3 a b l := ⟨y 0, y 1, y 2, by funext a; match a with | ⟨0, _⟩ => rfl | ⟨1, _⟩ => rfl | ⟨2, _⟩ => rfl⟩
  refine Finset.mem_map.mpr ⟨ix3 a r l, Finset.mem_univ _, ?_⟩
  show (Rect.unit (s := S15x2x512) ![j.val, 0, 0] S1x2x512.size (slot_inb j)).emb (ix3 a r l) = (slotRowR j r).emb (ix3 a b l)
  funext d
  refine Fin.ext ?_
  have := Fin.val_eq_zero b
  match d with
  | ⟨0, _⟩ => rfl
  | ⟨1, _⟩ => show 0 + 1 * r.val = r.val + 1 * b.val; omega
  | ⟨2, _⟩ => rfl

/-! ## The transfers -/

/-- Before the `n`th transfer starts. -/
def SendSt (n : ℕ) : sProp 𝕄 :=
  iprop(St (fun j : Fin 15 => iprop(sendPts m c (tokShare j) ∗ slotAny (tgt c j) j ∗ dutyTok ER (sendCell c j) 0 0 ∗ dutyTok ER (recvCell (tgt c j) j) 0 0))
    (fun j => cred (tallyAt (sendCell c j) () N)) n ∗ Ow c (ORecv c n))
/-- Before the `n`th landing, and the `n`th departure, is waited for. -/
def RWaitSt (n : ℕ) : sProp 𝕄 :=
  iprop(St (fun j : Fin 15 => iprop(cred (tallyAt (recvCell c j) () N) ∗ atPos ER (recvCell c j) 0 ∅ 0))
    (fun j => iprop(slotFull m c j ∗ semVal (recvCell c j) 0)) n ∗ Ow c 0)
def SWaitSt (n : ℕ) : sProp 𝕄 :=
  iprop(St (fun j : Fin 15 => iprop(cred (tallyAt (sendCell c j) () N) ∗ atPos ER (sendCell c j) 0 ∅ 0))
    (fun j => iprop(sendPts m c (tokShare j) ∗ semVal (sendCell c j) 0)) n ∗ Ow c 0)

theorem send_pay (j : Fin 15) :
    (sendM.view.loc (c : Thread nD τ) ↦[sendM.view.set]{tokShare j} sentV m c : sProp 𝕄) ⊢ (Rd (F := F) m).payload (sendCell c j) 0 0 := by
  rw [show sendCell c j = cellAt c (.inr (.inr (.inl j))) from rfl, payload_at m c (.inr (.inr (.inl j)))]
  exact BI.Entails.refl _

/-- The block, landed in its slot on the device it goes to. -/
theorem recv_pay (j : Fin 15) (f : Buf (Elt F) ((slotM j).view.loc (tgt c j : Thread nD τ))) :
    ((slotM j).view.loc (tgt c j : Thread nD τ) ↦[(slotM j).view.set]{fullShare}
        ((slotM j).view.write (Elt F) f (sendM.view.read (Elt F) (sentV m c)) Finset.univ) : sProp 𝕄)
    ⊢ (Rd (F := F) m).payload (recvCell (tgt c j) j) 0 0 := by
  rw [show recvCell (tgt c j) j = cellAt (tgt c j) (.inr (.inr (.inr j))) from rfl, payload_at m (tgt c j) (.inr (.inr (.inr j)))]
  dsimp only [payOf]
  unfold slotFull slotPts
  rw [peer_tgt]
  iintro H
  iexists ((slotM j).view.write (Elt F) f (sendM.view.read (Elt F) (sentV m c)) Finset.univ)
  isplitr
  · ipureintro; exact View.read_write_univ _ _
  iexact H

theorem wp_send {α : Type} {Q : α → sProp 𝕄} {k : PUnit → Prog (TpuEff nD τ sig (Elt F) Λ₀ .tc) α} (j : Fin 15) {n : Dev nD} (hn : n = tgt c j)
    {sS sR : DmaSem sig} (hs : sS = sendS j) (hr : sR = recvS j) {dst : Memref sig (Dev.tc n : Thread nD τ).2.kind .vmem S2x512 .f32} (hd : dst = slotM j)
    {hsc : dst.view.ref.isScScratch = false} {hsrc : sendM.view.WordExact} {hdst : dst.view.WordExact}
    {hty : DmaTarget.Typed .vmem (.dma sR) (.remote (Dev.tc n : Thread nD τ) dst (.dma sS) hsc)} :
    iprop(recs m K ∗ SendSt m c j.val)
      ⊢ iprop((SendSt m c (j.val + 1) -∗ wpc c (k ⟨⟩) Q)
        -∗ wpc c (.op (.enqueueDma sendM (.remote (Dev.tc n : Thread nD τ) dst (.dma sS) hsc) (.dma sR) hsrc hdst hty) k) Q) := by
  subst hn; subst hs; subst hr; subst hd
  unfold SendSt Ow
  iintro ⟨#HR, HS, %W, HO⟩ Hk
  ihave H := (St_step _ _ j) $$ HS
  unfold sendPts slotAny slotPts
  icases H with ⟨⟨Hs, ⟨%f, Hd⟩, Ht1, Ht2⟩, Hback⟩
  iapply (Rounds.wp_send_pointsTo 𝒱₀ ER (Rd m) (c : Thread nD τ) none (c' := (tgt c j : Thread nD τ)) (κ₁ := K (c, .inr (.inr (.inl j)))) (κ₂ := K (tgt c j, .inr (.inr (.inr j))))
      (src := sendM) (dst := slotM j) (sS := .dma (sendS j)) (sem := .dma (recvS j)) (q := tokShare j) (fs := sentV m c)
      (r₁ := 0) (r₂ := 0) (d₁ := 0) (d₂ := 0) (fd := f)
      (mem_duty m c (.inr (.inr (.inl j))) 0 (Finset.mem_singleton_self _)) (mem_duty m (tgt c j) (.inr (.inr (.inr j))) 0 (Finset.mem_singleton_self _))
      () () N (slot_credit j) (amount_at m c (.inr (.inr (.inl j))) 0) (amount_at m (tgt c j) (.inr (.inr (.inr j))) 0)
      (O₀ := ORecv c j.val) (ORecv c (j.val + 1)) (ORecv_step c j) (W := W) (send_pay m c j) (recv_pay m c j f)) $$ [Hs Hd HO Ht1 Ht2]
  · isplitr; · iapply (recs_inv m K c (.inr (.inr (.inl j)))); iexact HR
    isplitr; · iapply (recs_inv m K (tgt c j) (.inr (.inr (.inr j)))); iexact HR
    isplitl [Hs]; · iexact Hs
    isplitl [Hd]; · iexact Hd
    isplitl [HO]; · iexact HO
    isplitl [Ht1]; · iexact Ht1
    isplitr; · iapply (recs_reached m K c (.inr (.inr (.inl j)))); iexact HR
    isplitl [Ht2]; · iexact Ht2
    iapply (recs_reached m K (tgt c j) (.inr (.inr (.inr j)))); iexact HR
  iintro ⟨Hcr, HO⟩
  iapply Hk
  isplitl [Hback Hcr]
  · iapply Hback; iexact Hcr
  iexists W; iexact HO

theorem may_zero (sm : SemLoc sig) : (levAts L lv : sProp 𝕄) ⊢ MayWait (c : Thread nD τ) sm () 0 := by
  rw [MayWait_zero]; iintro -; iempintro

theorem wp_recvWait {α : Type} {Q : α → sProp 𝕄} {k : PUnit → Prog (TpuEff nD τ sig (Elt F) Λ₀ .tc) α} (j : Fin 15)
    {src dst : Memref sig .tc .vmem S2x512 .f32} {sem : DmaSem sig}
    (hsem : sem = recvS j) (hcr : dst.view.dmaCredit = N) {hsrc : src.view.WordExact} {hdst : dst.view.WordExact} :
    iprop(recs m K ∗ RWaitSt m c j.val)
      ⊢ iprop((RWaitSt m c (j.val + 1) -∗ wpc c (k ⟨⟩) Q) -∗ wpc c (.op (.waitDma2 sem src dst hsrc hdst) k) Q) := by
  subst hsem
  unfold RWaitSt
  iintro ⟨#HR, HS, HO⟩ Hk
  ihave H := (St_step _ _ j) $$ HS
  icases H with ⟨H, Hback⟩
  iapply (wait_own m K c (.inr (.inr j)) 0 (may_zero c _)
    (wpE_waitDma2_eq 𝒱₀ (c : Thread nD τ) none Set.univ) hcr) $$ [H HO]
  · isplitr; · iexact HR
    isplitl [H]; · iexact H
    iexact HO
  iintro H HO
  iapply Hk
  isplitl [Hback H]
  · iapply Hback; iexact H
  iexact HO

theorem wp_sendWait {α : Type} {Q : α → sProp 𝕄} {k : PUnit → Prog (TpuEff nD τ sig (Elt F) Λ₀ .tc) α} (j : Fin 15)
    {src dst : Memref sig .tc .vmem S2x512 .f32} {sem : DmaSem sig}
    (hsem : sem = sendS j) (hcr : dst.view.dmaCredit = N) {hsrc : src.view.WordExact} {hdst : dst.view.WordExact} :
    iprop(recs m K ∗ SWaitSt m c j.val)
      ⊢ iprop((SWaitSt m c (j.val + 1) -∗ wpc c (k ⟨⟩) Q) -∗ wpc c (.op (.waitDma2 sem src dst hsrc hdst) k) Q) := by
  subst hsem
  unfold SWaitSt
  iintro ⟨#HR, HS, HO⟩ Hk
  ihave H := (St_step _ _ j) $$ HS
  icases H with ⟨H, Hback⟩
  iapply (wait_own m K c (.inr (.inl j)) 0 (may_zero c _)
    (wpE_waitDma2_eq 𝒱₀ (c : Thread nD τ) none Set.univ) hcr) $$ [H HO]
  · isplitr; · iexact HR
    isplitl [H]; · iexact H
    iexact HO
  iintro H HO
  iapply Hk
  isplitl [Hback H]
  · iapply Hback; iexact H
  iexact HO

/-- A load of a row of a landed block. -/
theorem wp_loadRow (j : Fin 15) (r : Fin 2) (n : ℕ) (hin : j.val < n) {α : Type} {Q : α → sProp 𝕄} {off : Fin 3 → ℕ} (hoff : off = ![j.val, r.val, 0])
    {hinb : ∀ a, off a + S1x1x512.size a ≤ S15x2x512.size a}
    {hl : recvM.view.LoadsAt (Rect.unit (s := S15x2x512) off S1x1x512.size hinb).toLoadRect}
    {k : Vec F S1x1x512 .f32 → Prog (TpuEff nD τ sig (Elt F) Λ₀ .tc) α} :
    iprop(RWaitSt m c n)
      ⊢ iprop((∀ L : Vec F S1x1x512 .f32, ⌜rowOf L = nth (own m (peer c j)) r⌝ -∗ RWaitSt m c n -∗ wpc c (k L) Q)
        -∗ wpc c (.op (.load recvM (Rect.unit (s := S15x2x512) off S1x1x512.size hinb).toLoadRect hl) k) Q) := by
  subst hoff
  unfold RWaitSt
  iintro ⟨HS, HO⟩ Hk
  ihave H := (St_peek _ _ j hin) $$ HS
  unfold slotFull slotPts
  icases H with ⟨⟨⟨%f, %hf, Hx⟩, Hz⟩, Hback⟩
  have hloc : ((recvM.access (slotRowR j r)).loc (c : Thread nD τ) ↦[(slotM j).view.set]{fullShare} f : sProp 𝕄)
    = ((slotM j).view.loc (c : Thread nD τ) ↦[(slotM j).view.set]{fullShare} f) := rfl
  ihave Hx := (Entails.of_eq hloc.symm) $$ Hx
  iapply (wp_load_rect 𝒱₀ (c : Thread nD τ) none Set.univ (m := recvM) (r := slotRowR j r)
    (S := (slotM j).view.set) (f := f) (q := fullShare) (slot_row_subset j r)) $$ Hx
  iintro Hx
  iapply Hk
  · ipureintro; exact slot_row j r f _ hf
  isplitl [Hback Hx Hz]
  · iapply Hback
    isplitl [Hx]
    · iexists f; isplitr
      · ipureintro; exact hf
      iexact Hx
    iexact Hz
  iexact HO

/-! ## A block's two rows stored -/

/-- A whole block of two rows, of contents that read `X`. -/
def blockPts (M : Memref sig .tc .vmem S2x512 .f32) (X : FVec F S2x512 .f32) : sProp 𝕄 :=
  iprop(∃ f : Buf (Elt F) (M.view.loc (c : Thread nD τ)), ⌜M.view.read (Elt F) f = X⌝ ∗ M.view.loc (c : Thread nD τ) ↦[M.view.set]{fullShare} f)
def blockAny (M : Memref sig .tc .vmem S2x512 .f32) : sProp 𝕄 :=
  iprop(∃ f : Buf (Elt F) (M.view.loc (c : Thread nD τ)), M.view.loc (c : Thread nD τ) ↦[M.view.set]{fullShare} f)

theorem row_subset (M : Memref sig .tc .vmem S2x512 .f32) (r : Fin 2) : (M.access (rowR r)).set ⊆ M.view.set := View.set_slice_subset _ _

/-- Each row loaded (the load's value unused), then stored. -/
theorem wp_twoRows (M : Memref sig .tc .vmem S2x512 .f32) (p : FVec F S512 .f32 × FVec F S512 .f32) {α : Type} {Q : α → sProp 𝕄}
    {off0 off1 : Fin 2 → ℕ} (h0 : off0 = ![(0 : Fin 2).val, 0]) (h1 : off1 = ![(1 : Fin 2).val, 0])
    {hi0 : ∀ a, off0 a + S1x512.size a ≤ S2x512.size a} {hi1 : ∀ a, off1 a + S1x512.size a ≤ S2x512.size a}
    {hl0 : M.view.LoadsAt (Rect.unit (s := S2x512) off0 S1x512.size hi0).toLoadRect}
    {hl1 : M.view.LoadsAt (Rect.unit (s := S2x512) off1 S1x512.size hi1).toLoadRect}
    {w0 w1 : Vec F S1x512 .f32} (hw0 : w0 = shapeCast S1x512 p.1 shapeCasts_S512_S1x512) (hw1 : w1 = shapeCast S1x512 p.2 shapeCasts_S512_S1x512)
    {hx0 : (M.access (Rect.unit (s := S2x512) off0 S1x512.size hi0)).Stores Finset.univ}
    {hx1 : (M.access (Rect.unit (s := S2x512) off1 S1x512.size hi1)).Stores Finset.univ}
    {hm0 : (Finset.univ : Finset (Rect.unit (s := S2x512) off0 S1x512.size hi0).shape.Idx) = Finset.univ ∨ ∀ a, (Rect.unit (s := S2x512) off0 S1x512.size hi0).stride a = 1}
    {hm1 : (Finset.univ : Finset (Rect.unit (s := S2x512) off1 S1x512.size hi1).shape.Idx) = Finset.univ ∨ ∀ a, (Rect.unit (s := S2x512) off1 S1x512.size hi1).stride a = 1}
    {k : PUnit → Prog (TpuEff nD τ sig (Elt F) Λ₀ .tc) α} :
    blockAny c M
      ⊢ iprop((blockPts c M (rows2 p) -∗ wpc c (k ⟨⟩) Q)
        -∗ wpc c (.op (.load M (Rect.unit (s := S2x512) off0 S1x512.size hi0).toLoadRect hl0) fun _ =>
            .op (.store M (Rect.unit (s := S2x512) off0 S1x512.size hi0) w0 Finset.univ hx0 hm0) fun _ =>
            .op (.load M (Rect.unit (s := S2x512) off1 S1x512.size hi1).toLoadRect hl1) fun _ =>
            .op (.store M (Rect.unit (s := S2x512) off1 S1x512.size hi1) w1 Finset.univ hx1 hm1) k) Q) := by
  subst h0; subst h1; subst hw0; subst hw1
  unfold blockAny blockPts
  iintro ⟨%f, H⟩ Hk
  iapply (wp_load_rect 𝒱₀ (c : Thread nD τ) none Set.univ (m := M) (r := rowR 0) (S := M.view.set) (f := f) (q := fullShare) (row_subset M 0)) $$ H
  iintro H
  iapply (wp_store 𝒱₀ (c : Thread nD τ) none Set.univ (m := M) (r := rowR 0) (S := M.view.set) (f := f) (row_subset M 0)) $$ H
  iintro H
  iapply (wp_load_rect 𝒱₀ (c : Thread nD τ) none Set.univ (m := M) (r := rowR 1) (S := M.view.set) (q := fullShare) (row_subset M 1)) $$ H
  iintro H
  iapply (wp_store 𝒱₀ (c : Thread nD τ) none Set.univ (m := M) (r := rowR 1) (S := M.view.set) (row_subset M 1)) $$ H
  iintro H
  iapply Hk
  iexists ((M.access (rowR 1)).write (Elt F) ((M.access (rowR 0)).write (Elt F) f (shapeCast S1x512 p.1 shapeCasts_S512_S1x512) Finset.univ)
      (shapeCast S1x512 p.2 shapeCasts_S512_S1x512) Finset.univ)
  isplitr
  · ipureintro; exact two_rows M f p
  iexact H

end Cert.ArgmaxProof

end
-- ==== Proof.Parts.lean ====
/-
# The kernel's parts: the signals, the copies and the block sent

Each part of the kernel's text, from the state before it to the state after it.
-/
module

public import proofs.«01_k».proof.Proof.Xfer

@[expose] public section

noncomputable section

namespace Cert.ArgmaxProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix1 ix2 ix3)
open Idealize.ShloMosaic.Transfers (shareTok shareDrop)

variable {F : FTy → Type} [FloatOps F]

local notation "𝕄" => MT nD τ sig Unit (Elt F) ℕ UU ℕ

variable (m : (ℓ : Loc nD τ sig) → Buf (Elt F) ℓ)

variable (K : Dev nD × CIx → ℕ) (c : Dev nD) (M : Memref sig .tc .vmem S2x512 .f32) (hM : M.IsWhole)

/-- A step, from the state numbered by one literal to the state numbered by the next. -/
theorem at_ {R W G : sProp 𝕄} (S : ℕ → sProp 𝕄) (a b : ℕ) {n n' : ℕ} (h : iprop(R ∗ S n) ⊢ iprop((S n' -∗ W) -∗ G)) (ha : n = a) (hb : n' = b) :
    R ⊢ iprop(S a -∗ (S b -∗ W) -∗ G) := by
  subst ha; subst hb; exact BIClass.wand_intro h

theorem wpc_ret {α : Type} {Q : α → sProp 𝕄} {a : α} : Q a ⊢ wpc c (.ret a) Q := by
  unfold wpc; rw [wp_ret]
  iintro H; imodintro; iexact H

/-- The devices the parts compute are the peers signalled and the peers sent to. -/
theorem peer_of {n : ℕ} {hn : n < nD} (c : Dev nD) (j : Fin 15) (i : ℕ) (h : n = (c.val + i) % 16) (hi : i = j.val + 1) : (⟨n, hn⟩ : Dev nD) = peer c j := by
  refine Fin.ext ?_
  show n = (c.val + 1 + j.val) % 16
  rw [h, hi]; congr 1; omega
theorem tgt_of {n : ℕ} {hn : n < nD} (c : Dev nD) (j : Fin 15) (i : ℕ) (h : n = (c.val + i) % 16) (hi : i = 31 - j.val) : (⟨n, hn⟩ : Dev nD) = tgt c j := by
  refine Fin.ext ?_
  have hj := j.isLt
  show n = (c.val + 15 - j.val) % 16
  rw [h, hi]; omega

theorem part1_wp {Q : (Σ' (d0 : Dev nD) (v2 : BitVec 32) (v3 : Sems sig S_) (v25 : BitVec 32), BitVec 32) → sProp 𝕄} :
    recs m K ⊢ iprop(SigSt c 0 -∗ (∀ a : BitVec 32, ∀ b : BitVec 32, SigSt c 4 -∗ Q ⟨c, posW c, SemArray.scalar (sig.barrier 0 rfl), a, b⟩) -∗ wpc c (k0_part1 argM (Memref.isWhole_whole _) M hM xM (Memref.isWhole_whole _) sendM (Memref.isWhole_whole _) recvM (Memref.isWhole_whole _) cc0_scratch3 cc0_scratch4 cc0_scratch5) Q) := by
  rw [k0_part1_eq_skeleton]; unfold k0_part1_skel
  simp only [semSignalWord, semWaitWord, Prog.lift, Prog.bind_op, Prog.bind_ret, Prog.pure_eq_ret, wp_deviceId]
  unfold posW
  iintro #HR HS Hk
  iapply (at_ (SigSt c) 0 1 (wp_sig m K c 0 (peer_of c 0 1 (k0_dev1_eq c) rfl) rfl) rfl rfl) $$ HR HS
  iintro HS
  iapply (at_ (SigSt c) 1 2 (wp_sig m K c 1 (peer_of c 1 2 (k0_dev2_eq c) rfl) rfl) rfl rfl) $$ HR HS
  iintro HS
  iapply (at_ (SigSt c) 2 3 (wp_sig m K c 2 (peer_of c 2 3 (k0_dev3_eq c) rfl) rfl) rfl rfl) $$ HR HS
  iintro HS
  iapply (at_ (SigSt c) 3 4 (wp_sig m K c 3 (peer_of c 3 4 (k0_dev4_eq c) rfl) rfl) rfl rfl) $$ HR HS
  iintro HS
  iapply (wpc_ret c)
  iapply Hk; iexact HS

theorem part2_wp {Q : (Σ' (v50 : BitVec 32), BitVec 32) → sProp 𝕄} {x y : BitVec 32} :
    recs m K ⊢ iprop(SigSt c 4 -∗ (∀ a : BitVec 32, ∀ b : BitVec 32, SigSt c 9 -∗ Q ⟨a, b⟩) -∗ wpc c (k0_part2 argM (Memref.isWhole_whole _) M hM xM (Memref.isWhole_whole _) sendM (Memref.isWhole_whole _) recvM (Memref.isWhole_whole _) cc0_scratch3 cc0_scratch4 cc0_scratch5 c (posW c) (SemArray.scalar (sig.barrier 0 rfl)) x y) Q) := by
  rw [k0_part2_eq_skeleton]; unfold k0_part2_skel
  simp only [semSignalWord, semWaitWord, Prog.lift, Prog.bind_op, Prog.bind_ret, Prog.pure_eq_ret, wp_deviceId]
  iintro #HR HS Hk
  iapply (at_ (SigSt c) 4 5 (wp_sig m K c 4 (peer_of c 4 5 (k0_dev5_eq c) rfl) rfl) rfl rfl) $$ HR HS
  iintro HS
  iapply (at_ (SigSt c) 5 6 (wp_sig m K c 5 (peer_of c 5 6 (k0_dev6_eq c) rfl) rfl) rfl rfl) $$ HR HS
  iintro HS
  iapply (at_ (SigSt c) 6 7 (wp_sig m K c 6 (peer_of c 6 7 (k0_dev7_eq c) rfl) rfl) rfl rfl) $$ HR HS
  iintro HS
  iapply (at_ (SigSt c) 7 8 (wp_sig m K c 7 (peer_of c 7 8 (k0_dev8_eq c) rfl) rfl) rfl rfl) $$ HR HS
  iintro HS
  iapply (at_ (SigSt c) 8 9 (wp_sig m K c 8 (peer_of c 8 9 (k0_dev9_eq c) rfl) rfl) rfl rfl) $$ HR HS
  iintro HS
  iapply (wpc_ret c)
  iapply Hk; iexact HS

theorem part3_wp {Q : (Σ' (v50 : BitVec 32), BitVec 32) → sProp 𝕄} {x y : BitVec 32} :
    recs m K ⊢ iprop(SigSt c 9 -∗ (∀ a : BitVec 32, ∀ b : BitVec 32, SigSt c 14 -∗ Q ⟨a, b⟩) -∗ wpc c (k0_part3 argM (Memref.isWhole_whole _) M hM xM (Memref.isWhole_whole _) sendM (Memref.isWhole_whole _) recvM (Memref.isWhole_whole _) cc0_scratch3 cc0_scratch4 cc0_scratch5 c (posW c) (SemArray.scalar (sig.barrier 0 rfl)) x y) Q) := by
  rw [k0_part3_eq_skeleton]; unfold k0_part3_skel
  simp only [semSignalWord, semWaitWord, Prog.lift, Prog.bind_op, Prog.bind_ret, Prog.pure_eq_ret, wp_deviceId]
  iintro #HR HS Hk
  iapply (at_ (SigSt c) 9 10 (wp_sig m K c 9 (peer_of c 9 10 (k0_dev10_eq c) rfl) rfl) rfl rfl) $$ HR HS
  iintro HS
  iapply (at_ (SigSt c) 10 11 (wp_sig m K c 10 (peer_of c 10 11 (k0_dev11_eq c) rfl) rfl) rfl rfl) $$ HR HS
  iintro HS
  iapply (at_ (SigSt c) 11 12 (wp_sig m K c 11 (peer_of c 11 12 (k0_dev12_eq c) rfl) rfl) rfl rfl) $$ HR HS
  iintro HS
  iapply (at_ (SigSt c) 12 13 (wp_sig m K c 12 (peer_of c 12 13 (k0_dev13_eq c) rfl) rfl) rfl rfl) $$ HR HS
  iintro HS
  iapply (at_ (SigSt c) 13 14 (wp_sig m K c 13 (peer_of c 13 14 (k0_dev14_eq c) rfl) rfl) rfl rfl) $$ HR HS
  iintro HS
  iapply (wpc_ret c)
  iapply Hk; iexact HS

theorem part4_wp {Q : IVec S256x512 32 → sProp 𝕄} {x y : BitVec 32} :
    recs m K ⊢ iprop(SigSt c 14 -∗ CopySt m c 0 -∗ (SigSt c 15 -∗ CopySt m c 4 -∗ Q rowsV) -∗ wpc c (k0_part4 argM (Memref.isWhole_whole _) M hM xM (Memref.isWhole_whole _) sendM (Memref.isWhole_whole _) recvM (Memref.isWhole_whole _) cc0_scratch3 cc0_scratch4 cc0_scratch5 c (SemArray.scalar (sig.barrier 0 rfl)) x y) Q) := by
  rw [k0_part4_eq_skeleton]; unfold k0_part4_skel
  simp only [semSignalWord, semWaitWord, Prog.lift, Prog.bind_op, Prog.bind_ret, Prog.pure_eq_ret, wp_deviceId]
  unfold rowsV
  iintro #HR HS HC Hk
  iapply (at_ (SigSt c) 14 15 (wp_sig m K c 14 (peer_of c 14 15 (k0_dev15_eq c) rfl) rfl) rfl rfl) $$ HR HS
  iintro HS
  iapply (at_ (CopySt m c) 0 1 (wp_copyStart m K c 0 rfl rfl rfl) rfl rfl) $$ HR HC
  iintro HC
  iapply (at_ (CopySt m c) 1 2 (wp_copyStart m K c 1 rfl rfl rfl) rfl rfl) $$ HR HC
  iintro HC
  iapply (at_ (CopySt m c) 2 3 (wp_copyStart m K c 2 rfl rfl rfl) rfl rfl) $$ HR HC
  iintro HC
  iapply (at_ (CopySt m c) 3 4 (wp_copyStart m K c 3 rfl rfl rfl) rfl rfl) $$ HR HC
  iintro HC
  iapply (wpc_ret c)
  iapply Hk $$ HS HC

theorem part5_wp {Q : (Σ' (v107 : FVec F S512 .f32) (v115 : IVec S512 32) (v123 : FVec F S512 .f32) (v131 : IVec S512 32) (v132 : IVec S512 1), IVec S512 1) → sProp 𝕄} :
    recs m K ⊢ iprop(CWaitSt m c 0 -∗ (∀ L0 : Vec F S1x256x512 .f32, ∀ L1 : Vec F S1x256x512 .f32, ⌜k0_pay1 L0 = chunkV m c 0⌝ -∗ ⌜k0_pay1 L1 = chunkV m c 1⌝ -∗ CWaitSt m c 2
        -∗ Q ⟨k0_pay2 L0, k0_pay3 rowsV L0, k0_pay5 L1, k0_pay6 rowsV L1, k0_pay7 L0 L1, k0_pay8 rowsV L0 L1⟩)
      -∗ wpc c (k0_part5 argM (Memref.isWhole_whole _) M hM xM (Memref.isWhole_whole _) sendM (Memref.isWhole_whole _) recvM (Memref.isWhole_whole _) cc0_scratch3 cc0_scratch4 cc0_scratch5 rowsV) Q) := by
  rw [k0_part5_eq_skeleton]; unfold k0_part5_skel
  simp only [semSignalWord, semWaitWord, Prog.lift, Prog.bind_op, Prog.bind_ret, Prog.pure_eq_ret, wp_deviceId]
  iintro #HR HC Hk
  iapply (at_ (CWaitSt m c) 0 1 (wp_copyWait m K c 0 (src := chunkM 0) (dst := xslotM 0) rfl (xslot_credit 0)) rfl rfl) $$ HR HC
  iintro HC
  iapply (wp_loadX m c 0 1 (by decide) rfl) $$ HC
  iintro %L0 %hL0 HC
  iapply (at_ (CWaitSt m c) 1 2 (wp_copyWait m K c 1 (src := chunkM 1) (dst := xslotM 1) rfl (xslot_credit 1)) rfl rfl) $$ HR HC
  iintro HC
  iapply (wp_loadX m c 1 2 (by decide) rfl) $$ HC
  iintro %L1 %hL1 HC
  iapply (wpc_ret c)
  iapply Hk $$ %L0 %L1 %hL0 %hL1 HC

theorem part6_wp {Q : (Σ' (v160 : FVec F S512 .f32) (v161 : IVec S512 32) (v168 : FVec F S256x512 .f32) (v169 : FVec F S512 .f32), FVec F S1x512 .f32) → sProp 𝕄}
    {v107 : FVec F S512 .f32} {v115 : IVec S512 32} {v123 : FVec F S512 .f32} {v131 : IVec S512 32} {v132 v135 : IVec S512 1} :
    recs m K ⊢ iprop(CWaitSt m c 2 -∗ (∀ L2 : Vec F S1x256x512 .f32, ∀ L3 : Vec F S1x256x512 .f32, ⌜k0_pay1 L2 = chunkV m c 2⌝ -∗ ⌜k0_pay1 L3 = chunkV m c 3⌝ -∗ CWaitSt m c 4
        -∗ Q ⟨k0_pay16 rowsV v107 v115 v123 v131 v132 v135 L2, k0_pay17 rowsV v107 v115 v123 v131 v132 v135 L2, k0_pay18 L3, k0_pay19 L3, k0_pay20 L3⟩)
      -∗ wpc c (k0_part6 argM (Memref.isWhole_whole _) M hM xM (Memref.isWhole_whole _) sendM (Memref.isWhole_whole _) recvM (Memref.isWhole_whole _) cc0_scratch3 cc0_scratch4 cc0_scratch5 rowsV v107 v115 v123 v131 v132 v135) Q) := by
  rw [k0_part6_eq_skeleton]; unfold k0_part6_skel
  simp only [semSignalWord, semWaitWord, Prog.lift, Prog.bind_op, Prog.bind_ret, Prog.pure_eq_ret, wp_deviceId]
  iintro #HR HC Hk
  iapply (at_ (CWaitSt m c) 2 3 (wp_copyWait m K c 2 (src := chunkM 2) (dst := xslotM 2) rfl (xslot_credit 2)) rfl rfl) $$ HR HC
  iintro HC
  iapply (wp_loadX m c 2 3 (by decide) rfl) $$ HC
  iintro %L2 %hL2 HC
  iapply (at_ (CWaitSt m c) 3 4 (wp_copyWait m K c 3 (src := chunkM 3) (dst := xslotM 3) rfl (xslot_credit 3)) rfl rfl) $$ HR HC
  iintro HC
  iapply (wp_loadX m c 3 4 (by decide) rfl) $$ HC
  iintro %L3 %hL3 HC
  iapply (wpc_ret c)
  iapply Hk $$ %L2 %L3 %hL2 %hL3 HC

/-- The block stored, then the barrier: every peer's slot for it is in hand. -/
theorem part7_wp {Q : (Σ' (v183 : FVec F S512 .f32) (v188 : FVec F S512 .f32), BitVec 32) → sProp 𝕄}
    {v160 : FVec F S512 .f32} {v161 : IVec S512 32} {v168 : FVec F S256x512 .f32} {v169 : FVec F S512 .f32} {v170 : FVec F S1x512 .f32}
    {p : FVec F S512 .f32 × FVec F S512 .f32}
    (h1 : k0_pay23 rowsV v160 v161 v168 v169 v170 = p.1) (h2 : k0_pay24 (posW c) rowsV v160 v161 v168 v169 v170 = p.2) :
    recs m K ⊢ iprop(blockAny c sendM -∗ (cred (tallyAt (barCell c) () 15) ∗ atPos ER (barCell c) 0 ∅ 0) -∗ Ow c (ORecv c 0)
      -∗ (∀ a : BitVec 32, blockPts c sendM (rows2 p) -∗ (bigSep Finset.univ fun j : Fin 15 => slotAny (tgt c j) j) -∗ semVal (barCell c) 0 -∗ Ow c (ORecv c 0)
        -∗ Q ⟨p.1, p.2, a⟩)
      -∗ wpc c (k0_part7 argM (Memref.isWhole_whole _) M hM xM (Memref.isWhole_whole _) sendM (Memref.isWhole_whole _) recvM (Memref.isWhole_whole _) cc0_scratch3 cc0_scratch4 cc0_scratch5 (posW c) (SemArray.scalar (sig.barrier 0 rfl)) rowsV v160 v161 v168 v169 v170) Q) := by
  rw [k0_part7_eq_skeleton]; unfold k0_part7_skel
  simp only [semSignalWord, semWaitWord, Prog.lift, Prog.bind_op, Prog.bind_ret, Prog.pure_eq_ret, wp_deviceId]
  rw [h1, h2]
  iintro #HR HB HW HO Hk
  iapply (wp_twoRows c sendM p rfl rfl (by rw [← h1]; rfl) (by rw [← h2]; rfl)) $$ HB
  iintro HB
  iapply (wp_bar m K c rfl) $$ [HW HO]
  · isplitr; · iexact HR
    isplitl [HW] <;> iassumption
  iintro ⟨HS, HZ⟩ HO
  iapply (wpc_ret c)
  iapply Hk $$ HB HS HZ HO

end Cert.ArgmaxProof

end
-- ==== Proof.Merge.lean ====
/-
# The kernel's parts: the transfers, the merges and the result

The transfers started, then each landing waited for, its two rows read and merged, the result stored, and the
departures waited for.
-/
module

public import proofs.«01_k».proof.Proof.Parts

@[expose] public section

noncomputable section

namespace Cert.ArgmaxProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix1 ix2 ix3)
open Idealize.ShloMosaic.Transfers (shareTok shareDrop)

variable {F : FTy → Type} [FloatOps F]

local notation "𝕄" => MT nD τ sig Unit (Elt F) ℕ UU ℕ

variable (m : (ℓ : Loc nD τ sig) → Buf (Elt F) ℓ)

/-! ## From one stage to the next -/

section Stages
variable (c : Dev nD)

theorem sig_done : SigSt (F := F) c 15 ⊢ Ow c (ORecv c 0) := by
  unfold SigSt; rw [OBar_last, add_zero]
  iintro ⟨-, H⟩; iexact H
theorem copy_done : CopySt m c 4 ⊢ bigSep Finset.univ fun k : Fin 4 => (cred (tallyAt (copyCell c k) () N4) : sProp 𝕄) := by
  unfold CopySt; rw [St_full]
theorem send_done : SendSt m c 15 ⊢ iprop((bigSep Finset.univ fun j : Fin 15 => cred (tallyAt (sendCell c j) () N)) ∗ Ow c 0) := by
  unfold SendSt; rw [St_full, ORecv_last]
theorem recv_done : RWaitSt m c 15 ⊢ iprop((bigSep Finset.univ fun j : Fin 15 => iprop(slotFull m c j ∗ semVal (recvCell c j) 0)) ∗ Ow c 0) := by
  unfold RWaitSt; rw [St_full]
theorem swait_done : SWaitSt m c 15 ⊢ iprop((bigSep Finset.univ fun j : Fin 15 => iprop(sendPts m c (tokShare j) ∗ semVal (sendCell c j) 0)) ∗ Ow c 0) := by
  unfold SWaitSt; rw [St_full]
theorem cwait_done : CWaitSt m c 4 ⊢ iprop((bigSep Finset.univ fun k : Fin 4 => iprop((xslotFull m c k ∗ chunkPts m c k) ∗ semVal (copyCell c k) 0)) ∗ Ow c (ORecv c 0)) := by
  unfold CWaitSt; rw [St_full]

theorem cwait_start : iprop((bigSep Finset.univ fun k : Fin 4 => (cred (tallyAt (copyCell c k) () N4) : sProp 𝕄))
    ∗ (bigSep Finset.univ fun k : Fin 4 => (atPos ER (copyCell c k) 0 ∅ 0 : sProp 𝕄)) ∗ Ow c (ORecv c 0)) ⊢ CWaitSt m c 0 := by
  unfold CWaitSt; rw [St_zero, bigSep_sep']
  iintro ⟨H1, H2, H3⟩
  isplitl [H1 H2]
  · isplitl [H1] <;> iassumption
  iexact H3
theorem rwait_start : iprop((bigSep Finset.univ fun j : Fin 15 => (cred (tallyAt (recvCell c j) () N) : sProp 𝕄))
    ∗ (bigSep Finset.univ fun j : Fin 15 => (atPos ER (recvCell c j) 0 ∅ 0 : sProp 𝕄)) ∗ Ow c 0) ⊢ RWaitSt m c 0 := by
  unfold RWaitSt; rw [St_zero, bigSep_sep']
  iintro ⟨H1, H2, H3⟩
  isplitl [H1 H2]
  · isplitl [H1] <;> iassumption
  iexact H3
theorem swait_start : iprop((bigSep Finset.univ fun j : Fin 15 => (cred (tallyAt (sendCell c j) () N) : sProp 𝕄))
    ∗ (bigSep Finset.univ fun j : Fin 15 => (atPos ER (sendCell c j) 0 ∅ 0 : sProp 𝕄)) ∗ Ow c 0) ⊢ SWaitSt m c 0 := by
  unfold SWaitSt; rw [St_zero, bigSep_sep']
  iintro ⟨H1, H2, H3⟩
  isplitl [H1 H2]
  · isplitl [H1] <;> iassumption
  iexact H3
end Stages

/-! ## The merges -/

section Merges
variable {p a b : FVec F S512 .f32 × FVec F S512 .f32} {v : FVec F S512 .f32} {w x y : Vec F S1x1x512 .f32}

theorem pay35_eq (h0 : v = a.1) (h1 : rowOf w = a.2) (h2 : rowOf x = b.1) (h3 : rowOf y = b.2) :
    k0_pay35 p.1 p.2 v w x y = (mergeF (mergeF p a) b).1 := by
  unfold rowOf at h1 h2 h3
  dsimp only [k0_pay35, k0_pay34, k0_pay33, k0_pay32, k0_pay31, k0_pay30, k0_pay29, k0_pay28, mergeF]
  rw [h0, h1, h2, h3]
theorem pay36_eq (h0 : v = a.1) (h1 : rowOf w = a.2) (h2 : rowOf x = b.1) (h3 : rowOf y = b.2) :
    k0_pay36 p.1 p.2 v w x y = (mergeF (mergeF p a) b).2 := by
  unfold rowOf at h1 h2 h3
  dsimp only [k0_pay36, k0_pay34, k0_pay33, k0_pay32, k0_pay31, k0_pay30, k0_pay29, k0_pay28, mergeF]
  rw [h0, h1, h2, h3]
theorem pay100_eq (h0 : rowOf x = a.1) (h1 : rowOf y = a.2) : k0_pay100 p.1 p.2 x y = shapeCast S1x512 (mergeF p a).1 shapeCasts_S512_S1x512 := by
  unfold rowOf at h0 h1
  dsimp only [k0_pay100, k0_pay99, k0_pay98, k0_pay97, mergeF]
  rw [h0, h1]
theorem pay101_eq (h0 : rowOf x = a.1) (h1 : rowOf y = a.2) : k0_pay101 p.1 p.2 x y = shapeCast S1x512 (mergeF p a).2 shapeCasts_S512_S1x512 := by
  unfold rowOf at h0 h1
  dsimp only [k0_pay101, k0_pay99, k0_pay98, k0_pay97, mergeF]
  rw [h0, h1]

variable {c : Dev nD} {n : ℕ} {j j' : Fin 15}

/-- Two merges of a part: from the pair after `n` blocks to the pair after `n + 2`. The parts write them with the same
    operations under their own names. -/
theorem two_fst (n : ℕ) (k : ℕ) (hk : k = n + 2) (hj : Fin.ofNat 15 n = j) (hj' : Fin.ofNat 15 (n + 1) = j') (h0 : v = (own m (peer c j)).1) (h1 : rowOf w = (own m (peer c j)).2)
    (h2 : rowOf x = (own m (peer c j')).1) (h3 : rowOf y = (own m (peer c j')).2) :
    k0_pay35 (acc m c n).1 (acc m c n).2 v w x y = (acc m c k).1 := by
  subst hk; subst hj; subst hj'; exact pay35_eq h0 h1 h2 h3
theorem two_snd (n : ℕ) (k : ℕ) (hk : k = n + 2) (hj : Fin.ofNat 15 n = j) (hj' : Fin.ofNat 15 (n + 1) = j') (h0 : v = (own m (peer c j)).1) (h1 : rowOf w = (own m (peer c j)).2)
    (h2 : rowOf x = (own m (peer c j')).1) (h3 : rowOf y = (own m (peer c j')).2) :
    k0_pay36 (acc m c n).1 (acc m c n).2 v w x y = (acc m c k).2 := by
  subst hk; subst hj; subst hj'; exact pay36_eq h0 h1 h2 h3

theorem pay45_at : k0_pay45 (F := F) = k0_pay35 := rfl
theorem pay46_at : k0_pay46 (F := F) = k0_pay36 := rfl
theorem pay55_at : k0_pay55 (F := F) = k0_pay35 := rfl
theorem pay56_at : k0_pay56 (F := F) = k0_pay36 := rfl
theorem pay65_at (s t : FVec F S512 .f32) (u : Vec F S1x1x512 .f32) : k0_pay65 s t u w x y = k0_pay35 s t (rowOf u) w x y := rfl
theorem pay66_at (s t : FVec F S512 .f32) (u : Vec F S1x1x512 .f32) : k0_pay66 s t u w x y = k0_pay36 s t (rowOf u) w x y := rfl
theorem pay75_at : k0_pay75 (F := F) = k0_pay65 := rfl
theorem pay76_at : k0_pay76 (F := F) = k0_pay66 := rfl
theorem pay85_at : k0_pay85 (F := F) = k0_pay65 := rfl
theorem pay86_at : k0_pay86 (F := F) = k0_pay66 := rfl
theorem pay95_at : k0_pay95 (F := F) = k0_pay65 := rfl
theorem pay96_at : k0_pay96 (F := F) = k0_pay66 := rfl
end Merges

variable (K : Dev nD × CIx → ℕ) (c : Dev nD) (M : Memref sig .tc .vmem S2x512 .f32) (hM : M.IsWhole)

/-! ## The transfers started -/

theorem part8_wp {Q : (Σ' (v210 : BitVec 32) (v222 : BitVec 32), BitVec 32) → sProp 𝕄} :
    recs m K ⊢ iprop(SendSt m c 0 -∗ (∀ a : BitVec 32, ∀ b : BitVec 32, ∀ d : BitVec 32, SendSt m c 3 -∗ Q ⟨a, b, d⟩) -∗ wpc c (k0_part8 argM (Memref.isWhole_whole _) M hM xM (Memref.isWhole_whole _) sendM (Memref.isWhole_whole _) recvM (Memref.isWhole_whole _) cc0_scratch3 cc0_scratch4 cc0_scratch5 c (posW c)) Q) := by
  rw [k0_part8_eq_skeleton]; unfold k0_part8_skel
  simp only [semSignalWord, semWaitWord, Prog.lift, Prog.bind_op, Prog.bind_ret, Prog.pure_eq_ret, wp_deviceId]
  iintro #HR HS Hk
  iapply (at_ (SendSt m c) 0 1 (wp_send m K c 0 (tgt_of c 0 31 (k0_dev16_eq c) rfl) rfl rfl rfl) rfl rfl) $$ HR HS
  iintro HS
  iapply (at_ (SendSt m c) 1 2 (wp_send m K c 1 (tgt_of c 1 30 (k0_dev17_eq c) rfl) rfl rfl rfl) rfl rfl) $$ HR HS
  iintro HS
  iapply (at_ (SendSt m c) 2 3 (wp_send m K c 2 (tgt_of c 2 29 (k0_dev18_eq c) rfl) rfl rfl rfl) rfl rfl) $$ HR HS
  iintro HS
  iapply (wpc_ret c)
  iapply Hk; iexact HS

theorem part9_wp {Q : (Σ' (v246 : BitVec 32), BitVec 32) → sProp 𝕄} {x : BitVec 32} :
    recs m K ⊢ iprop(SendSt m c 3 -∗ (∀ a : BitVec 32, ∀ b : BitVec 32, SendSt m c 5 -∗ Q ⟨a, b⟩) -∗ wpc c (k0_part9 argM (Memref.isWhole_whole _) M hM xM (Memref.isWhole_whole _) sendM (Memref.isWhole_whole _) recvM (Memref.isWhole_whole _) cc0_scratch3 cc0_scratch4 cc0_scratch5 c (posW c) x) Q) := by
  rw [k0_part9_eq_skeleton]; unfold k0_part9_skel
  simp only [semSignalWord, semWaitWord, Prog.lift, Prog.bind_op, Prog.bind_ret, Prog.pure_eq_ret, wp_deviceId]
  iintro #HR HS Hk
  iapply (at_ (SendSt m c) 3 4 (wp_send m K c 3 (tgt_of c 3 28 (k0_dev19_eq c) rfl) rfl rfl rfl) rfl rfl) $$ HR HS
  iintro HS
  iapply (at_ (SendSt m c) 4 5 (wp_send m K c 4 (tgt_of c 4 27 (k0_dev20_eq c) rfl) rfl rfl rfl) rfl rfl) $$ HR HS
  iintro HS
  iapply (wpc_ret c)
  iapply Hk; iexact HS

theorem part10_wp {Q : (Σ' (v210 : BitVec 32) (v222 : BitVec 32), BitVec 32) → sProp 𝕄} :
    recs m K ⊢ iprop(SendSt m c 5 -∗ (∀ a : BitVec 32, ∀ b : BitVec 32, ∀ d : BitVec 32, SendSt m c 8 -∗ Q ⟨a, b, d⟩) -∗ wpc c (k0_part10 argM (Memref.isWhole_whole _) M hM xM (Memref.isWhole_whole _) sendM (Memref.isWhole_whole _) recvM (Memref.isWhole_whole _) cc0_scratch3 cc0_scratch4 cc0_scratch5 c (posW c)) Q) := by
  rw [k0_part10_eq_skeleton]; unfold k0_part10_skel
  simp only [semSignalWord, semWaitWord, Prog.lift, Prog.bind_op, Prog.bind_ret, Prog.pure_eq_ret, wp_deviceId]
  iintro #HR HS Hk
  iapply (at_ (SendSt m c) 5 6 (wp_send m K c 5 (tgt_of c 5 26 (k0_dev21_eq c) rfl) rfl rfl rfl) rfl rfl) $$ HR HS
  iintro HS
  iapply (at_ (SendSt m c) 6 7 (wp_send m K c 6 (tgt_of c 6 25 (k0_dev22_eq c) rfl) rfl rfl rfl) rfl rfl) $$ HR HS
  iintro HS
  iapply (at_ (SendSt m c) 7 8 (wp_send m K c 7 (tgt_of c 7 24 (k0_dev23_eq c) rfl) rfl rfl rfl) rfl rfl) $$ HR HS
  iintro HS
  iapply (wpc_ret c)
  iapply Hk; iexact HS

theorem part11_wp {Q : (Σ' (v246 : BitVec 32), BitVec 32) → sProp 𝕄} {x : BitVec 32} :
    recs m K ⊢ iprop(SendSt m c 8 -∗ (∀ a : BitVec 32, ∀ b : BitVec 32, SendSt m c 10 -∗ Q ⟨a, b⟩) -∗ wpc c (k0_part11 argM (Memref.isWhole_whole _) M hM xM (Memref.isWhole_whole _) sendM (Memref.isWhole_whole _) recvM (Memref.isWhole_whole _) cc0_scratch3 cc0_scratch4 cc0_scratch5 c (posW c) x) Q) := by
  rw [k0_part11_eq_skeleton]; unfold k0_part11_skel
  simp only [semSignalWord, semWaitWord, Prog.lift, Prog.bind_op, Prog.bind_ret, Prog.pure_eq_ret, wp_deviceId]
  iintro #HR HS Hk
  iapply (at_ (SendSt m c) 8 9 (wp_send m K c 8 (tgt_of c 8 23 (k0_dev24_eq c) rfl) rfl rfl rfl) rfl rfl) $$ HR HS
  iintro HS
  iapply (at_ (SendSt m c) 9 10 (wp_send m K c 9 (tgt_of c 9 22 (k0_dev25_eq c) rfl) rfl rfl rfl) rfl rfl) $$ HR HS
  iintro HS
  iapply (wpc_ret c)
  iapply Hk; iexact HS

theorem part12_wp {Q : (Σ' (v210 : BitVec 32) (v222 : BitVec 32), BitVec 32) → sProp 𝕄} :
    recs m K ⊢ iprop(SendSt m c 10 -∗ (∀ a : BitVec 32, ∀ b : BitVec 32, ∀ d : BitVec 32, SendSt m c 13 -∗ Q ⟨a, b, d⟩) -∗ wpc c (k0_part12 argM (Memref.isWhole_whole _) M hM xM (Memref.isWhole_whole _) sendM (Memref.isWhole_whole _) recvM (Memref.isWhole_whole _) cc0_scratch3 cc0_scratch4 cc0_scratch5 c (posW c)) Q) := by
  rw [k0_part12_eq_skeleton]; unfold k0_part12_skel
  simp only [semSignalWord, semWaitWord, Prog.lift, Prog.bind_op, Prog.bind_ret, Prog.pure_eq_ret, wp_deviceId]
  iintro #HR HS Hk
  iapply (at_ (SendSt m c) 10 11 (wp_send m K c 10 (tgt_of c 10 21 (k0_dev26_eq c) rfl) rfl rfl rfl) rfl rfl) $$ HR HS
  iintro HS
  iapply (at_ (SendSt m c) 11 12 (wp_send m K c 11 (tgt_of c 11 20 (k0_dev27_eq c) rfl) rfl rfl rfl) rfl rfl) $$ HR HS
  iintro HS
  iapply (at_ (SendSt m c) 12 13 (wp_send m K c 12 (tgt_of c 12 19 (k0_dev28_eq c) rfl) rfl rfl rfl) rfl rfl) $$ HR HS
  iintro HS
  iapply (wpc_ret c)
  iapply Hk; iexact HS

/-- The last two transfers, and the first landing. -/
theorem part13_wp {Q : (Σ' (v366 : BitVec 32) (v382 : FVec F S512 .f32), Vec F S1x1x512 .f32) → sProp 𝕄} {x y : BitVec 32} :
    recs m K ⊢ iprop(SendSt m c 13 -∗ (bigSep Finset.univ fun j : Fin 15 => (cred (tallyAt (recvCell c j) () N) : sProp 𝕄))
      -∗ (bigSep Finset.univ fun j : Fin 15 => (atPos ER (recvCell c j) 0 ∅ 0 : sProp 𝕄))
      -∗ (∀ a : BitVec 32, ∀ v : FVec F S512 .f32, ∀ w : Vec F S1x1x512 .f32, ⌜v = (own m (peer c 0)).1⌝ -∗ ⌜rowOf w = (own m (peer c 0)).2⌝
        -∗ (bigSep Finset.univ fun j : Fin 15 => (cred (tallyAt (sendCell c j) () N) : sProp 𝕄)) -∗ RWaitSt m c 1 -∗ Q ⟨a, v, w⟩)
      -∗ wpc c (k0_part13 argM (Memref.isWhole_whole _) M hM xM (Memref.isWhole_whole _) sendM (Memref.isWhole_whole _) recvM (Memref.isWhole_whole _) cc0_scratch3 cc0_scratch4 cc0_scratch5 c (posW c) x y) Q) := by
  rw [k0_part13_eq_skeleton]; unfold k0_part13_skel
  simp only [semSignalWord, semWaitWord, Prog.lift, Prog.bind_op, Prog.bind_ret, Prog.pure_eq_ret, wp_deviceId]
  iintro #HR HS Hcr Hat Hk
  iapply (at_ (SendSt m c) 13 14 (wp_send m K c 13 (tgt_of c 13 18 (k0_dev29_eq c) rfl) rfl rfl rfl) rfl rfl) $$ HR HS
  iintro HS
  iapply (at_ (SendSt m c) 14 15 (wp_send m K c 14 (tgt_of c 14 17 (k0_dev30_eq c) rfl) rfl rfl rfl) rfl rfl) $$ HR HS
  iintro HS
  ihave H := (send_done m c) $$ HS
  icases H with ⟨Hsc, HO⟩
  ihave HS := (rwait_start m c) $$ [Hcr Hat HO]
  · isplitl [Hcr]; · iexact Hcr
    isplitl [Hat] <;> iassumption
  iapply (at_ (RWaitSt m c) 0 1 (wp_recvWait m K c 0 (src := sendM) (dst := slotM 0) rfl (slot_credit 0)) rfl rfl) $$ HR HS
  iintro HS
  iapply (wp_loadRow m c 0 0 1 (by decide) rfl) $$ HS
  iintro %L0a %hL0a HS
  iapply (wp_loadRow m c 0 1 1 (by decide) rfl) $$ HS
  iintro %L0b %hL0b HS
  iapply (wpc_ret c)
  iapply Hk $$ %_ %(k0_pay27 L0a) %L0b %hL0a %hL0b Hsc HS

/-! ## The merges -/

theorem part14_wp {Q : (Σ' (v407 : FVec F S512 .f32) (v408 : FVec F S512 .f32), FVec F S512 .f32) → sProp 𝕄} {x y : BitVec 32} {v : FVec F S512 .f32} {w : Vec F S1x1x512 .f32}
    (h0 : v = (own m (peer c 0)).1) (h1 : rowOf w = (own m (peer c 0)).2) :
    recs m K ⊢ iprop(RWaitSt m c 1 -∗ (RWaitSt m c 3 -∗ Q ⟨(acc m c 2).1, (acc m c 2).2, (own m (peer c 2)).1⟩)
      -∗ wpc c (k0_part14 argM (Memref.isWhole_whole _) M hM xM (Memref.isWhole_whole _) sendM (Memref.isWhole_whole _) recvM (Memref.isWhole_whole _) cc0_scratch3 cc0_scratch4 cc0_scratch5 (acc m c 0).1 (acc m c 0).2 x y v w) Q) := by
  rw [k0_part14_eq_skeleton]; unfold k0_part14_skel
  simp only [semSignalWord, semWaitWord, Prog.lift, Prog.bind_op, Prog.bind_ret, Prog.pure_eq_ret, wp_deviceId]
  iintro #HR HS Hk
  iapply (at_ (RWaitSt m c) 1 2 (wp_recvWait m K c 1 (src := sendM) (dst := slotM 1) rfl (slot_credit 1)) rfl rfl) $$ HR HS
  iintro HS
  iapply (wp_loadRow m c 1 0 2 (by decide) rfl) $$ HS
  iintro %L1a %hL1a HS
  iapply (wp_loadRow m c 1 1 2 (by decide) rfl) $$ HS
  iintro %L1b %hL1b HS
  iapply (at_ (RWaitSt m c) 2 3 (wp_recvWait m K c 2 (src := sendM) (dst := slotM 2) rfl (slot_credit 2)) rfl rfl) $$ HR HS
  iintro HS
  iapply (wp_loadRow m c 2 0 3 (by decide) rfl) $$ HS
  iintro %L2a %hL2a HS
  rw [two_fst m 0 2 rfl (j := 0) (j' := 1) rfl rfl h0 h1 hL1a hL1b, two_snd m 0 2 rfl (j := 0) (j' := 1) rfl rfl h0 h1 hL1a hL1b]
  rw [show k0_pay37 L2a = (own m (peer c 2)).1 from hL2a]
  iapply (wpc_ret c)
  iapply Hk $$ HS

theorem part15_wp {Q : (Σ' (v441 : FVec F S512 .f32) (v442 : FVec F S512 .f32), FVec F S512 .f32) → sProp 𝕄} {x y : BitVec 32} :
    recs m K ⊢ iprop(RWaitSt m c 3 -∗ (RWaitSt m c 5 -∗ Q ⟨(acc m c 4).1, (acc m c 4).2, (own m (peer c 4)).1⟩)
      -∗ wpc c (k0_part15 argM (Memref.isWhole_whole _) M hM xM (Memref.isWhole_whole _) sendM (Memref.isWhole_whole _) recvM (Memref.isWhole_whole _) cc0_scratch3 cc0_scratch4 cc0_scratch5 x y (acc m c 2).1 (acc m c 2).2 (own m (peer c 2)).1) Q) := by
  rw [k0_part15_eq_skeleton]; unfold k0_part15_skel
  simp only [semSignalWord, semWaitWord, Prog.lift, Prog.bind_op, Prog.bind_ret, Prog.pure_eq_ret, wp_deviceId]
  iintro #HR HS Hk
  iapply (wp_loadRow m c 2 1 3 (by decide) rfl) $$ HS
  iintro %L2b %hL2b HS
  iapply (at_ (RWaitSt m c) 3 4 (wp_recvWait m K c 3 (src := sendM) (dst := slotM 3) rfl (slot_credit 3)) rfl rfl) $$ HR HS
  iintro HS
  iapply (wp_loadRow m c 3 0 4 (by decide) rfl) $$ HS
  iintro %L3a %hL3a HS
  iapply (wp_loadRow m c 3 1 4 (by decide) rfl) $$ HS
  iintro %L3b %hL3b HS
  iapply (at_ (RWaitSt m c) 4 5 (wp_recvWait m K c 4 (src := sendM) (dst := slotM 4) rfl (slot_credit 4)) rfl rfl) $$ HR HS
  iintro HS
  iapply (wp_loadRow m c 4 0 5 (by decide) rfl) $$ HS
  iintro %L4a %hL4a HS
  rw [pay45_at, two_fst m 2 4 rfl (j := 2) (j' := 3) rfl rfl rfl hL2b hL3a hL3b, pay46_at, two_snd m 2 4 rfl (j := 2) (j' := 3) rfl rfl rfl hL2b hL3a hL3b]
  rw [show k0_pay47 L4a = (own m (peer c 4)).1 from hL4a]
  iapply (wpc_ret c)
  iapply Hk $$ HS

theorem part16_wp {Q : (Σ' (v475 : FVec F S512 .f32), FVec F S512 .f32) → sProp 𝕄} {x y : BitVec 32} :
    recs m K ⊢ iprop(RWaitSt m c 5 -∗ (RWaitSt m c 7 -∗ Q ⟨(acc m c 6).1, (acc m c 6).2⟩)
      -∗ wpc c (k0_part16 argM (Memref.isWhole_whole _) M hM xM (Memref.isWhole_whole _) sendM (Memref.isWhole_whole _) recvM (Memref.isWhole_whole _) cc0_scratch3 cc0_scratch4 cc0_scratch5 x y (acc m c 4).1 (acc m c 4).2 (own m (peer c 4)).1) Q) := by
  rw [k0_part16_eq_skeleton]; unfold k0_part16_skel
  simp only [semSignalWord, semWaitWord, Prog.lift, Prog.bind_op, Prog.bind_ret, Prog.pure_eq_ret, wp_deviceId]
  iintro #HR HS Hk
  iapply (wp_loadRow m c 4 1 5 (by decide) rfl) $$ HS
  iintro %L4b %hL4b HS
  iapply (at_ (RWaitSt m c) 5 6 (wp_recvWait m K c 5 (src := sendM) (dst := slotM 5) rfl (slot_credit 5)) rfl rfl) $$ HR HS
  iintro HS
  iapply (wp_loadRow m c 5 0 6 (by decide) rfl) $$ HS
  iintro %L5a %hL5a HS
  iapply (wp_loadRow m c 5 1 6 (by decide) rfl) $$ HS
  iintro %L5b %hL5b HS
  iapply (at_ (RWaitSt m c) 6 7 (wp_recvWait m K c 6 (src := sendM) (dst := slotM 6) rfl (slot_credit 6)) rfl rfl) $$ HR HS
  iintro HS
  rw [pay55_at, two_fst m 4 6 rfl (j := 4) (j' := 5) rfl rfl rfl hL4b hL5a hL5b, pay56_at, two_snd m 4 6 rfl (j := 4) (j' := 5) rfl rfl rfl hL4b hL5a hL5b]
  iapply (wpc_ret c)
  iapply Hk $$ HS

theorem part17_wp {Q : (Σ' (v475 : FVec F S512 .f32), FVec F S512 .f32) → sProp 𝕄} {x y : BitVec 32} :
    recs m K ⊢ iprop(RWaitSt m c 7 -∗ (RWaitSt m c 9 -∗ Q ⟨(acc m c 8).1, (acc m c 8).2⟩)
      -∗ wpc c (k0_part17 argM (Memref.isWhole_whole _) M hM xM (Memref.isWhole_whole _) sendM (Memref.isWhole_whole _) recvM (Memref.isWhole_whole _) cc0_scratch3 cc0_scratch4 cc0_scratch5 x y (acc m c 6).1 (acc m c 6).2) Q) := by
  rw [k0_part17_eq_skeleton]; unfold k0_part17_skel
  simp only [semSignalWord, semWaitWord, Prog.lift, Prog.bind_op, Prog.bind_ret, Prog.pure_eq_ret, wp_deviceId]
  iintro #HR HS Hk
  iapply (wp_loadRow m c 6 0 7 (by decide) rfl) $$ HS
  iintro %L6a %hL6a HS
  iapply (wp_loadRow m c 6 1 7 (by decide) rfl) $$ HS
  iintro %L6b %hL6b HS
  iapply (at_ (RWaitSt m c) 7 8 (wp_recvWait m K c 7 (src := sendM) (dst := slotM 7) rfl (slot_credit 7)) rfl rfl) $$ HR HS
  iintro HS
  iapply (wp_loadRow m c 7 0 8 (by decide) rfl) $$ HS
  iintro %L7a %hL7a HS
  iapply (wp_loadRow m c 7 1 8 (by decide) rfl) $$ HS
  iintro %L7b %hL7b HS
  iapply (at_ (RWaitSt m c) 8 9 (wp_recvWait m K c 8 (src := sendM) (dst := slotM 8) rfl (slot_credit 8)) rfl rfl) $$ HR HS
  iintro HS
  rw [pay65_at, two_fst m 6 8 rfl (j := 6) (j' := 7) rfl rfl hL6a hL6b hL7a hL7b, pay66_at, two_snd m 6 8 rfl (j := 6) (j' := 7) rfl rfl hL6a hL6b hL7a hL7b]
  iapply (wpc_ret c)
  iapply Hk $$ HS

theorem part18_wp {Q : (Σ' (v475 : FVec F S512 .f32), FVec F S512 .f32) → sProp 𝕄} {x y : BitVec 32} :
    recs m K ⊢ iprop(RWaitSt m c 9 -∗ (RWaitSt m c 10 -∗ Q ⟨(acc m c 10).1, (acc m c 10).2⟩)
      -∗ wpc c (k0_part18 argM (Memref.isWhole_whole _) M hM xM (Memref.isWhole_whole _) sendM (Memref.isWhole_whole _) recvM (Memref.isWhole_whole _) cc0_scratch3 cc0_scratch4 cc0_scratch5 x y (acc m c 8).1 (acc m c 8).2) Q) := by
  rw [k0_part18_eq_skeleton]; unfold k0_part18_skel
  simp only [semSignalWord, semWaitWord, Prog.lift, Prog.bind_op, Prog.bind_ret, Prog.pure_eq_ret, wp_deviceId]
  iintro #HR HS Hk
  iapply (wp_loadRow m c 8 0 9 (by decide) rfl) $$ HS
  iintro %L8a %hL8a HS
  iapply (wp_loadRow m c 8 1 9 (by decide) rfl) $$ HS
  iintro %L8b %hL8b HS
  iapply (at_ (RWaitSt m c) 9 10 (wp_recvWait m K c 9 (src := sendM) (dst := slotM 9) rfl (slot_credit 9)) rfl rfl) $$ HR HS
  iintro HS
  iapply (wp_loadRow m c 9 0 10 (by decide) rfl) $$ HS
  iintro %L9a %hL9a HS
  iapply (wp_loadRow m c 9 1 10 (by decide) rfl) $$ HS
  iintro %L9b %hL9b HS
  rw [pay75_at, pay65_at, two_fst m 8 10 rfl (j := 8) (j' := 9) rfl rfl hL8a hL8b hL9a hL9b, pay76_at, pay66_at, two_snd m 8 10 rfl (j := 8) (j' := 9) rfl rfl hL8a hL8b hL9a hL9b]
  iapply (wpc_ret c)
  iapply Hk $$ HS

theorem part19_wp {Q : (Σ' (v475 : FVec F S512 .f32), FVec F S512 .f32) → sProp 𝕄} {x y : BitVec 32} :
    recs m K ⊢ iprop(RWaitSt m c 10 -∗ (RWaitSt m c 12 -∗ Q ⟨(acc m c 12).1, (acc m c 12).2⟩)
      -∗ wpc c (k0_part19 argM (Memref.isWhole_whole _) M hM xM (Memref.isWhole_whole _) sendM (Memref.isWhole_whole _) recvM (Memref.isWhole_whole _) cc0_scratch3 cc0_scratch4 cc0_scratch5 x y (acc m c 10).1 (acc m c 10).2) Q) := by
  rw [k0_part19_eq_skeleton]; unfold k0_part19_skel
  simp only [semSignalWord, semWaitWord, Prog.lift, Prog.bind_op, Prog.bind_ret, Prog.pure_eq_ret, wp_deviceId]
  iintro #HR HS Hk
  iapply (at_ (RWaitSt m c) 10 11 (wp_recvWait m K c 10 (src := sendM) (dst := slotM 10) rfl (slot_credit 10)) rfl rfl) $$ HR HS
  iintro HS
  iapply (wp_loadRow m c 10 0 11 (by decide) rfl) $$ HS
  iintro %L10a %hL10a HS
  iapply (wp_loadRow m c 10 1 11 (by decide) rfl) $$ HS
  iintro %L10b %hL10b HS
  iapply (at_ (RWaitSt m c) 11 12 (wp_recvWait m K c 11 (src := sendM) (dst := slotM 11) rfl (slot_credit 11)) rfl rfl) $$ HR HS
  iintro HS
  iapply (wp_loadRow m c 11 0 12 (by decide) rfl) $$ HS
  iintro %L11a %hL11a HS
  iapply (wp_loadRow m c 11 1 12 (by decide) rfl) $$ HS
  iintro %L11b %hL11b HS
  rw [pay85_at, pay65_at, two_fst m 10 12 rfl (j := 10) (j' := 11) rfl rfl hL10a hL10b hL11a hL11b, pay86_at, pay66_at, two_snd m 10 12 rfl (j := 10) (j' := 11) rfl rfl hL10a hL10b hL11a hL11b]
  iapply (wpc_ret c)
  iapply Hk $$ HS

theorem part20_wp {Q : (Σ' (v475 : FVec F S512 .f32), FVec F S512 .f32) → sProp 𝕄} {x y : BitVec 32} :
    recs m K ⊢ iprop(RWaitSt m c 12 -∗ (RWaitSt m c 14 -∗ Q ⟨(acc m c 14).1, (acc m c 14).2⟩)
      -∗ wpc c (k0_part20 argM (Memref.isWhole_whole _) M hM xM (Memref.isWhole_whole _) sendM (Memref.isWhole_whole _) recvM (Memref.isWhole_whole _) cc0_scratch3 cc0_scratch4 cc0_scratch5 x y (acc m c 12).1 (acc m c 12).2) Q) := by
  rw [k0_part20_eq_skeleton]; unfold k0_part20_skel
  simp only [semSignalWord, semWaitWord, Prog.lift, Prog.bind_op, Prog.bind_ret, Prog.pure_eq_ret, wp_deviceId]
  iintro #HR HS Hk
  iapply (at_ (RWaitSt m c) 12 13 (wp_recvWait m K c 12 (src := sendM) (dst := slotM 12) rfl (slot_credit 12)) rfl rfl) $$ HR HS
  iintro HS
  iapply (wp_loadRow m c 12 0 13 (by decide) rfl) $$ HS
  iintro %L12a %hL12a HS
  iapply (wp_loadRow m c 12 1 13 (by decide) rfl) $$ HS
  iintro %L12b %hL12b HS
  iapply (at_ (RWaitSt m c) 13 14 (wp_recvWait m K c 13 (src := sendM) (dst := slotM 13) rfl (slot_credit 13)) rfl rfl) $$ HR HS
  iintro HS
  iapply (wp_loadRow m c 13 0 14 (by decide) rfl) $$ HS
  iintro %L13a %hL13a HS
  iapply (wp_loadRow m c 13 1 14 (by decide) rfl) $$ HS
  iintro %L13b %hL13b HS
  rw [pay95_at, pay65_at, two_fst m 12 14 rfl (j := 12) (j' := 13) rfl rfl hL12a hL12b hL13a hL13b, pay96_at, pay66_at, two_snd m 12 14 rfl (j := 12) (j' := 13) rfl rfl hL12a hL12b hL13a hL13b]
  iapply (wpc_ret c)
  iapply Hk $$ HS

/-- The last landing and merge, the result stored, and the first two departures. -/
theorem part21_wp {Q : PUnit → sProp 𝕄} :
    recs m K ⊢ iprop(RWaitSt m c 14 -∗ blockAny c M -∗ (bigSep Finset.univ fun j : Fin 15 => (cred (tallyAt (sendCell c j) () N) : sProp 𝕄))
      -∗ (bigSep Finset.univ fun j : Fin 15 => (atPos ER (sendCell c j) 0 ∅ 0 : sProp 𝕄))
      -∗ (blockPts c M (outV m c) -∗ (bigSep Finset.univ fun j : Fin 15 => iprop(slotFull m c j ∗ semVal (recvCell c j) 0)) -∗ SWaitSt m c 2 -∗ Q ⟨⟩)
      -∗ wpc c (k0_part21 argM (Memref.isWhole_whole _) M hM xM (Memref.isWhole_whole _) sendM (Memref.isWhole_whole _) recvM (Memref.isWhole_whole _) cc0_scratch3 cc0_scratch4 cc0_scratch5 (acc m c 14).1 (acc m c 14).2) Q) := by
  rw [k0_part21_eq_skeleton]; unfold k0_part21_skel
  simp only [semSignalWord, semWaitWord, Prog.lift, Prog.bind_op, Prog.bind_ret, Prog.pure_eq_ret, wp_deviceId]
  unfold outV
  iintro #HR HS HB Hcr Hat Hk
  iapply (at_ (RWaitSt m c) 14 15 (wp_recvWait m K c 14 (src := sendM) (dst := slotM 14) rfl (slot_credit 14)) rfl rfl) $$ HR HS
  iintro HS
  iapply (wp_loadRow m c 14 0 15 (by decide) rfl) $$ HS
  iintro %L14a %hL14a HS
  iapply (wp_loadRow m c 14 1 15 (by decide) rfl) $$ HS
  iintro %L14b %hL14b HS
  iapply (wp_twoRows c M (acc m c 15) rfl rfl (pay100_eq (p := acc m c 14) (a := own m (peer c 14)) hL14a hL14b) (pay101_eq (p := acc m c 14) (a := own m (peer c 14)) hL14a hL14b)) $$ HB
  iintro HB
  ihave H := (recv_done m c) $$ HS
  icases H with ⟨Hsl, HO⟩
  ihave HS := (swait_start m c) $$ [Hcr Hat HO]
  · isplitl [Hcr]; · iexact Hcr
    isplitl [Hat] <;> iassumption
  iapply (at_ (SWaitSt m c) 0 1 (wp_sendWait m K c 0 (src := slotM 0) (dst := sendM) rfl rfl) rfl rfl) $$ HR HS
  iintro HS
  iapply (at_ (SWaitSt m c) 1 2 (wp_sendWait m K c 1 (src := slotM 1) (dst := sendM) rfl rfl) rfl rfl) $$ HR HS
  iintro HS
  iapply (wpc_ret c)
  iapply Hk $$ HB Hsl HS

theorem part22_wp {Q : PUnit → sProp 𝕄} :
    recs m K ⊢ iprop(SWaitSt m c 2 -∗ (SWaitSt m c 7 -∗ Q ⟨⟩) -∗ wpc c (k0_part22 argM (Memref.isWhole_whole _) M hM xM (Memref.isWhole_whole _) sendM (Memref.isWhole_whole _) recvM (Memref.isWhole_whole _) cc0_scratch3 cc0_scratch4 cc0_scratch5) Q) := by
  rw [k0_part22_eq_skeleton]; unfold k0_part22_skel
  simp only [semSignalWord, semWaitWord, Prog.lift, Prog.bind_op, Prog.bind_ret, Prog.pure_eq_ret, wp_deviceId]
  iintro #HR HS Hk
  iapply (at_ (SWaitSt m c) 2 3 (wp_sendWait m K c 2 (src := slotM 2) (dst := sendM) rfl rfl) rfl rfl) $$ HR HS
  iintro HS
  iapply (at_ (SWaitSt m c) 3 4 (wp_sendWait m K c 3 (src := slotM 3) (dst := sendM) rfl rfl) rfl rfl) $$ HR HS
  iintro HS
  iapply (at_ (SWaitSt m c) 4 5 (wp_sendWait m K c 4 (src := slotM 4) (dst := sendM) rfl rfl) rfl rfl) $$ HR HS
  iintro HS
  iapply (at_ (SWaitSt m c) 5 6 (wp_sendWait m K c 5 (src := slotM 5) (dst := sendM) rfl rfl) rfl rfl) $$ HR HS
  iintro HS
  iapply (at_ (SWaitSt m c) 6 7 (wp_sendWait m K c 6 (src := slotM 6) (dst := sendM) rfl rfl) rfl rfl) $$ HR HS
  iintro HS
  iapply (wpc_ret c)
  iapply Hk $$ HS

theorem part23_wp {Q : PUnit → sProp 𝕄} :
    recs m K ⊢ iprop(SWaitSt m c 7 -∗ (SWaitSt m c 13 -∗ Q ⟨⟩) -∗ wpc c (k0_part23 argM (Memref.isWhole_whole _) M hM xM (Memref.isWhole_whole _) sendM (Memref.isWhole_whole _) recvM (Memref.isWhole_whole _) cc0_scratch3 cc0_scratch4 cc0_scratch5) Q) := by
  rw [k0_part23_eq_skeleton]; unfold k0_part23_skel
  simp only [semSignalWord, semWaitWord, Prog.lift, Prog.bind_op, Prog.bind_ret, Prog.pure_eq_ret, wp_deviceId]
  iintro #HR HS Hk
  iapply (at_ (SWaitSt m c) 7 8 (wp_sendWait m K c 7 (src := slotM 7) (dst := sendM) rfl rfl) rfl rfl) $$ HR HS
  iintro HS
  iapply (at_ (SWaitSt m c) 8 9 (wp_sendWait m K c 8 (src := slotM 8) (dst := sendM) rfl rfl) rfl rfl) $$ HR HS
  iintro HS
  iapply (at_ (SWaitSt m c) 9 10 (wp_sendWait m K c 9 (src := slotM 9) (dst := sendM) rfl rfl) rfl rfl) $$ HR HS
  iintro HS
  iapply (at_ (SWaitSt m c) 10 11 (wp_sendWait m K c 10 (src := slotM 10) (dst := sendM) rfl rfl) rfl rfl) $$ HR HS
  iintro HS
  iapply (at_ (SWaitSt m c) 11 12 (wp_sendWait m K c 11 (src := slotM 11) (dst := sendM) rfl rfl) rfl rfl) $$ HR HS
  iintro HS
  iapply (at_ (SWaitSt m c) 12 13 (wp_sendWait m K c 12 (src := slotM 12) (dst := sendM) rfl rfl) rfl rfl) $$ HR HS
  iintro HS
  iapply (wpc_ret c)
  iapply Hk $$ HS

end Cert.ArgmaxProof

end
-- ==== Proof.Body.lean ====
/-
# The kernel on one device

The parts in order: what a device starts from, what it ends with, and its run between them.
-/
module

public import proofs.«01_k».proof.Proof.Merge

@[expose] public section

noncomputable section

namespace Cert.ArgmaxProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix1 ix2 ix3)
open Idealize.ShloMosaic.Transfers (shareTok shareDrop)

variable {F : FTy → Type} [FloatOps F]

local notation "𝕄" => MT nD τ sig Unit (Elt F) ℕ UU ℕ

variable (m : (ℓ : Loc nD τ sig) → Buf (Elt F) ℓ)

/-- What a device starts from: the duties its signals pay with the slots they hand over, the duties of its copies and transfers, the
    credits of its waits and its positions. -/
def Start (c : Dev nD) : sProp 𝕄 :=
  iprop((bigSep Finset.univ fun j : Fin 15 => iprop(dutyTok ER (barCell (peer c j)) 0 j ∗ slotAny c j))
    ∗ (bigSep Finset.univ fun k : Fin 4 => iprop(chunkPts m c k ∗ xslotAny c k ∗ dutyTok ER (copyCell c k) 0 0))
    ∗ (bigSep Finset.univ fun k : Fin 4 => atPos ER (copyCell c k) 0 ∅ 0)
    ∗ blockAny c sendM
    ∗ (cred (tallyAt (barCell c) () 15) ∗ atPos ER (barCell c) 0 ∅ 0)
    ∗ (bigSep Finset.univ fun j : Fin 15 => dutyTok ER (sendCell c j) 0 0)
    ∗ (bigSep Finset.univ fun j : Fin 15 => dutyTok ER (recvCell (tgt c j) j) 0 0)
    ∗ (bigSep Finset.univ fun j : Fin 15 => cred (tallyAt (recvCell c j) () N))
    ∗ (bigSep Finset.univ fun j : Fin 15 => atPos ER (recvCell c j) 0 ∅ 0)
    ∗ bigSep Finset.univ fun j : Fin 15 => atPos ER (sendCell c j) 0 ∅ 0)

/-- What it ends with: its buffers again and every one of its semaphores at zero. -/
def Finish (c : Dev nD) : sProp 𝕄 :=
  iprop((bigSep Finset.univ fun k : Fin 4 => iprop((xslotFull m c k ∗ chunkPts m c k) ∗ semVal (copyCell c k) 0))
    ∗ (bigSep Finset.univ fun j : Fin 15 => iprop(slotFull m c j ∗ semVal (recvCell c j) 0))
    ∗ blockAny c sendM
    ∗ (bigSep Finset.univ fun j : Fin 15 => semVal (sendCell c j) 0)
    ∗ semVal (barCell c) 0)

section Body
variable (K : Dev nD × CIx → ℕ) (c : Dev nD) (M : Memref sig .tc .vmem S2x512 .f32) (hM : M.IsWhole)

theorem wpc_bind {α β : Type} {p : Prog (TpuEff nD τ sig (Elt F) Λ₀ .tc) α} {k : α → Prog (TpuEff nD τ sig (Elt F) Λ₀ .tc) β} {Q : β → sProp 𝕄} :
    wpc c p (fun a => wpc c (k a) Q) ⊢ wpc c (p >>= k) Q := by
  unfold wpc; exact Entails.of_eq (wp_bind _ _ _ _ _ _).symm

theorem sig_start : iprop((bigSep Finset.univ fun j : Fin 15 => iprop(dutyTok ER (barCell (peer c j)) 0 j ∗ slotAny (F := F) c j)) ∗ Ow c (O₀ c)) ⊢ SigSt c 0 := by
  unfold SigSt; rw [St_zero]; exact BI.Entails.refl _
theorem copy_start : (bigSep Finset.univ fun k : Fin 4 => iprop(chunkPts m c k ∗ xslotAny c k ∗ dutyTok ER (copyCell c k) 0 0)) ⊢ CopySt m c 0 := by
  unfold CopySt; rw [St_zero]

/-- The block stored is split into a share for each transfer and a rest; -/
theorem send_split : blockPts c sendM (rows2 (own m c))
    ⊢ iprop((sendM.view.loc (c : Thread nD τ) ↦[sendM.view.set]{shareDrop fullShare 15} sentV m c) ∗ bigSep Finset.univ fun j : Fin 15 => sendPts m c (tokShare j)) := by
  unfold blockPts
  iintro ⟨%f, %hf, H⟩
  have hf' : f = sentV m c := hf
  subst hf'
  ihave H' := (Transfers.pointsTo_toks_split fullShare 15) $$ H
  unfold sendPts; iexact H'
/-- the shares handed back make it whole again. -/
theorem send_join : iprop((sendM.view.loc (c : Thread nD τ) ↦[sendM.view.set]{shareDrop fullShare 15} sentV m c) ∗ bigSep Finset.univ fun j : Fin 15 => sendPts m c (tokShare j))
    ⊢ blockAny (F := F) c sendM := by
  unfold blockAny sendPts
  iintro H
  iexists (sentV m c)
  iapply (Transfers.pointsTo_toks_join fullShare 15)
  iexact H

theorem send_start : iprop((bigSep Finset.univ fun j : Fin 15 => sendPts m c (tokShare j)) ∗ (bigSep Finset.univ fun j : Fin 15 => slotAny (F := F) (tgt c j) j)
    ∗ (bigSep Finset.univ fun j : Fin 15 => dutyTok ER (sendCell c j) 0 0) ∗ (bigSep Finset.univ fun j : Fin 15 => dutyTok ER (recvCell (tgt c j) j) 0 0)
    ∗ Ow c (ORecv c 0)) ⊢ SendSt m c 0 := by
  unfold SendSt; rw [St_zero, bigSep_sep', bigSep_sep', bigSep_sep']
  iintro ⟨H1, H2, H3, H4, H5⟩
  isplitr [H5]
  · isplitl [H1]; · iexact H1
    isplitl [H2]; · iexact H2
    isplitl [H3] <;> iassumption
  iexact H5

theorem sends_back : SWaitSt m c 15 ⊢ iprop(((bigSep Finset.univ fun j : Fin 15 => sendPts m c (tokShare j)) ∗ bigSep Finset.univ fun j : Fin 15 => semVal (sendCell c j) 0) ∗ Ow c 0) := by
  rw [← bigSep_sep']; exact swait_done m c

/-- The kernel on device `c`: the result block in the output's staging, everything else back. -/
theorem body_wp {Q : PUnit → sProp 𝕄} :
    recs m K ⊢ iprop(Start m c -∗ Ow c (O₀ c) -∗ blockAny c M -∗ (Finish m c -∗ Ow c 0 -∗ blockPts c M (outV m c) -∗ Q ⟨⟩)
      -∗ wpc c (cc0_body argM (Memref.isWhole_whole _) M hM xM (Memref.isWhole_whole _) sendM (Memref.isWhole_whole _) recvM (Memref.isWhole_whole _) cc0_scratch3 cc0_scratch4 cc0_scratch5) Q) := by
  rw [cc0_body_eq_skeleton]; unfold cc0_body_skel
  unfold Start Finish
  iintro #HR ⟨Hsig, Hcp, HatC, HsB, HbW, HtS, HtR, HcR, HatR, HatS⟩ HO HB Hk
  ihave HS := (sig_start c) $$ [Hsig HO]
  · isplitl [Hsig] <;> iassumption
  ihave HC := (copy_start m c) $$ Hcp
  iapply (wpc_bind c)
  iapply (part1_wp m K c M hM) $$ HR HS
  iintro %a1 %b1 HS
  iapply (wpc_bind c)
  iapply (part2_wp m K c M hM) $$ HR HS
  iintro %a2 %b2 HS
  iapply (wpc_bind c)
  iapply (part3_wp m K c M hM) $$ HR HS
  iintro %a3 %b3 HS
  iapply (wpc_bind c)
  iapply (part4_wp m K c M hM) $$ HR HS HC
  iintro HS HC
  ihave HO := (sig_done c) $$ HS
  ihave HcC := (copy_done m c) $$ HC
  ihave HC := (cwait_start m c) $$ [HcC HatC HO]
  · isplitl [HcC]; · iexact HcC
    isplitl [HatC] <;> iassumption
  iapply (wpc_bind c)
  iapply (part5_wp m K c M hM) $$ HR HC
  iintro %L0 %L1 %h0 %h1 HC
  iapply (wpc_bind c)
  iapply (part6_wp m K c M hM) $$ HR HC
  iintro %L2 %L3 %h2 %h3 HC
  ihave HC := (cwait_done m c) $$ HC
  icases HC with ⟨HC, HO⟩
  rw [pay2_eq h0, pay3_eq h0, pay5_eq h1, pay6_eq h1, pay7_eq h0 h1, pay8_eq h0 h1, pay16_eq _ _ h2, pay17_eq _ _ h2]
  iapply (wpc_bind c)
  iapply (part7_wp m K c M hM (p := own m c) (pay23_eq _ h3) (pay24_eq _ _ h3)) $$ HR HsB HbW HO
  iintro %a7 HsB HsA HvB HO
  ihave HsB := (send_split m c) $$ HsB
  icases HsB with ⟨Hdrop, Htoks⟩
  ihave HS := (send_start m c) $$ [Htoks HsA HtS HtR HO]
  · isplitl [Htoks]; · iexact Htoks
    isplitl [HsA]; · iexact HsA
    isplitl [HtS]; · iexact HtS
    isplitl [HtR] <;> iassumption
  iapply (wpc_bind c)
  iapply (part8_wp m K c M hM) $$ HR HS
  iintro %a8 %b8 %d8 HS
  iapply (wpc_bind c)
  iapply (part9_wp m K c M hM) $$ HR HS
  iintro %a9 %b9 HS
  iapply (wpc_bind c)
  iapply (part10_wp m K c M hM) $$ HR HS
  iintro %a10 %b10 %d10 HS
  iapply (wpc_bind c)
  iapply (part11_wp m K c M hM) $$ HR HS
  iintro %a11 %b11 HS
  iapply (wpc_bind c)
  iapply (part12_wp m K c M hM) $$ HR HS
  iintro %a12 %b12 %d12 HS
  iapply (wpc_bind c)
  iapply (part13_wp m K c M hM) $$ HR HS HcR HatR
  iintro %a13 %v %w %hv %hw HcS HS
  iapply (wpc_bind c)
  iapply (part14_wp m K c M hM hv hw) $$ HR HS
  iintro HS
  iapply (wpc_bind c)
  iapply (part15_wp m K c M hM) $$ HR HS
  iintro HS
  iapply (wpc_bind c)
  iapply (part16_wp m K c M hM) $$ HR HS
  iintro HS
  iapply (wpc_bind c)
  iapply (part17_wp m K c M hM) $$ HR HS
  iintro HS
  iapply (wpc_bind c)
  iapply (part18_wp m K c M hM) $$ HR HS
  iintro HS
  iapply (wpc_bind c)
  iapply (part19_wp m K c M hM) $$ HR HS
  iintro HS
  iapply (wpc_bind c)
  iapply (part20_wp m K c M hM) $$ HR HS
  iintro HS
  iapply (wpc_bind c)
  iapply (part21_wp m K c M hM) $$ HR HS HB HcS HatS
  iintro HB Hslots HS
  iapply (wpc_bind c)
  iapply (part22_wp m K c M hM) $$ HR HS
  iintro HS
  iapply (wpc_bind c)
  iapply (part23_wp m K c M hM) $$ HR HS
  iintro HS
  simp only [Prog.lift, Prog.bind_op, Prog.bind_ret, Prog.pure_eq_ret]
  iapply (at_ (SWaitSt m c) 13 14 (wp_sendWait m K c 13 (src := slotM 13) (dst := sendM) rfl rfl) rfl rfl) $$ HR HS
  iintro HS
  iapply (at_ (SWaitSt m c) 14 15 (wp_sendWait m K c 14 (src := slotM 14) (dst := sendM) rfl rfl) rfl rfl) $$ HR HS
  iintro HS
  iapply (wpc_ret c)
  ihave H := (sends_back m c) $$ HS
  icases H with ⟨⟨Htoks, HvS⟩, HO⟩
  ihave HsB := (send_join m c) $$ [Hdrop Htoks]
  · isplitl [Hdrop] <;> iassumption
  iapply Hk $$ [HC Hslots HsB HvS HvB] HO HB
  isplitl [HC]; · iexact HC
  isplitl [Hslots]; · iexact Hslots
  isplitl [HsB]; · iexact HsB
  isplitl [HvS] <;> iassumption
end Body

end Cert.ArgmaxProof

end
-- ==== Proof.Blocks.lean ====
/-
# The buffers cut into their blocks

The landing buffer is its fifteen slots, the copied argument's buffer its four quarters, the argument its four chunks
of rows. Held whole, each is held block by block, and back.
-/
module

public import proofs.«01_k».proof.Proof.Body
public import Idealize.ShloMosaic.Lib.Ring

@[expose] public section

noncomputable section

namespace Cert.ArgmaxProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix1 ix2 ix3)
open Idealize.ShloMosaic.Transfers (shareTok shareDrop)

variable {F : FTy → Type} [FloatOps F]

local notation "𝕄" => MT nD τ sig Unit (Elt F) ℕ UU ℕ

variable (m : (ℓ : Loc nD τ sig) → Buf (Elt F) ℓ)

/-! ## Which entries a block has -/

def slotS (j : Fin 15) : Finset S15x2x512.Idx := (Rect.unit (s := S15x2x512) ![j.val, 0, 0] S1x2x512.size (slot_inb j)).set
def xslotS (k : Fin 4) : Finset S4x256x512.Idx := (Rect.unit (s := S4x256x512) ![k.val, 0, 0] S1x256x512.size (xslot_inb k)).set
def chunkS (k : Fin 4) : Finset S1024x512.Idx := (Rect.unit (s := S1024x512) ![256 * k.val, 0] S256x512.size (chunk_inb k)).set

theorem slot_set (j : Fin 15) : (slotM j).view.set = slotS j := by
  unfold slotM; exact (View.set_reshape _ _).trans (View.set_slice_whole _ _)
theorem xslot_set (k : Fin 4) : (xslotM k).view.set = xslotS k := by
  unfold xslotM; exact (View.set_reshape _ _).trans (View.set_slice_whole _ _)
theorem chunk_set (k : Fin 4) : (chunkM k).view.set = chunkS k := by
  unfold chunkM; exact View.set_slice_whole _ _

theorem mem_slot (j : Fin 15) (y : S15x2x512.Idx) : y ∈ slotS j ↔ (y 0).val = j.val := by
  unfold slotS; rw [Rect.mem_set_unit]
  have h1 : (y 1).val < 2 := (y 1).isLt
  have h2 : (y 2).val < 512 := (y 2).isLt
  constructor
  · intro H; have a0 : j.val ≤ (y 0).val ∧ (y 0).val < j.val + 1 := H 0; omega
  · intro H a
    match a with
    | ⟨0, _⟩ => show j.val ≤ (y 0).val ∧ (y 0).val < j.val + 1; omega
    | ⟨1, _⟩ => show 0 ≤ (y 1).val ∧ (y 1).val < 0 + 2; omega
    | ⟨2, _⟩ => show 0 ≤ (y 2).val ∧ (y 2).val < 0 + 512; omega
theorem mem_xslot (k : Fin 4) (y : S4x256x512.Idx) : y ∈ xslotS k ↔ (y 0).val = k.val := by
  unfold xslotS; rw [Rect.mem_set_unit]
  have h1 : (y 1).val < 256 := (y 1).isLt
  have h2 : (y 2).val < 512 := (y 2).isLt
  constructor
  · intro H; have a0 : k.val ≤ (y 0).val ∧ (y 0).val < k.val + 1 := H 0; omega
  · intro H a
    match a with
    | ⟨0, _⟩ => show k.val ≤ (y 0).val ∧ (y 0).val < k.val + 1; omega
    | ⟨1, _⟩ => show 0 ≤ (y 1).val ∧ (y 1).val < 0 + 256; omega
    | ⟨2, _⟩ => show 0 ≤ (y 2).val ∧ (y 2).val < 0 + 512; omega
theorem mem_chunk (k : Fin 4) (y : S1024x512.Idx) : y ∈ chunkS k ↔ (y 0).val / 256 = k.val := by
  unfold chunkS; rw [Rect.mem_set_unit]
  have h1 : (y 1).val < 512 := (y 1).isLt
  constructor
  · intro H; have a0 : 256 * k.val ≤ (y 0).val ∧ (y 0).val < 256 * k.val + 256 := H 0; omega
  · intro H a
    match a with
    | ⟨0, _⟩ => show 256 * k.val ≤ (y 0).val ∧ (y 0).val < 256 * k.val + 256; omega
    | ⟨1, _⟩ => show 0 ≤ (y 1).val ∧ (y 1).val < 0 + 512; omega

/-- Blocks told apart by a number of their entries are disjoint, -/
theorem blocks_disjoint {n : ℕ} {I : Type} [DecidableEq I] (S : Fin n → Finset I) (g : I → ℕ) (h : ∀ b y, y ∈ S b ↔ g y = b.val) :
    ∀ b b', b ≠ b' → Disjoint (S b) (S b') := by
  intro b b' hne; rw [Finset.disjoint_left]; intro y hy hy'; rw [h] at hy hy'; exact hne (Fin.ext (hy.symm.trans hy'))
/-- and cover when the number is always a block's. -/
theorem blocks_cover {n : ℕ} {I : Type} [Fintype I] [DecidableEq I] (S : Fin n → Finset I) (g : I → ℕ) (h : ∀ b y, y ∈ S b ↔ g y = b.val) (hg : ∀ y, g y < n) :
    Finset.univ.biUnion S = Finset.univ := by
  ext y; simp only [Finset.mem_biUnion, Finset.mem_univ, true_and, iff_true]; exact ⟨⟨g y, hg y⟩, (h _ _).mpr rfl⟩

/-! ## Whole, and block by block -/

section Blocks
variable (c : Dev nD)

theorem slotPts_eq (j : Fin 15) (f : Buf (Elt F) ((c : Thread nD τ).loc cc0_scratch2)) :
    (slotPts c j f : sProp 𝕄) = (((c : Thread nD τ).loc cc0_scratch2) ↦[slotS j]{fullShare} f) :=
  congrArg (fun S => (((c : Thread nD τ).loc cc0_scratch2) ↦[S]{fullShare} f : sProp 𝕄)) (slot_set j)
theorem xslotPts_eq (k : Fin 4) (f : Buf (Elt F) ((c : Thread nD τ).loc cc0_scratch0)) :
    (xslotPts c k f : sProp 𝕄) = (((c : Thread nD τ).loc cc0_scratch0) ↦[xslotS k]{fullShare} f) :=
  congrArg (fun S => (((c : Thread nD τ).loc cc0_scratch0) ↦[S]{fullShare} f : sProp 𝕄)) (xslot_set k)
theorem chunkPts_eq (k : Fin 4) :
    (chunkPts m c k : sProp 𝕄) = (((c : Thread nD τ).loc main_arg0) ↦[chunkS k]{fullShare} m ((c : Thread nD τ).loc main_arg0)) :=
  congrArg (fun S => (((c : Thread nD τ).loc main_arg0) ↦[S]{fullShare} m ((c : Thread nD τ).loc main_arg0) : sProp 𝕄)) (chunk_set k)

theorem slot_any (j) (f : Buf (Elt F) ((c : Thread nD τ).loc cc0_scratch2)) : (((c : Thread nD τ).loc cc0_scratch2) ↦[slotS j]{fullShare} f : sProp 𝕄) ⊢ slotAny c j := by
  rw [← slotPts_eq]; unfold slotAny; iintro H; iexists f; iexact H
theorem slots_split : iprop(∃ f : Buf (Elt F) ((c : Thread nD τ).loc cc0_scratch2), ((c : Thread nD τ).loc cc0_scratch2) ↦{fullShare} f)
    ⊢ (bigSep Finset.univ fun j : Fin 15 => slotAny c j : sProp 𝕄) := by
  iintro ⟨%f, H⟩
  iapply ((Entails.of_eq (Ring.pointsTo_blocks (Ix := Unit) (Name := ℕ) (U := UU) (Lvl := ℕ) (q := fullShare) (ℓ := (c : Thread nD τ).loc cc0_scratch2) slotS
    (blocks_disjoint _ (fun y : S15x2x512.Idx => (y 0).val) mem_slot) (blocks_cover _ (fun y : S15x2x512.Idx => (y 0).val) mem_slot fun y => (y 0).isLt) f)).trans (bigSep_mono fun i _ => slot_any c i f))
  iexact H
theorem slots_join : (bigSep Finset.univ fun j : Fin 15 => slotAny (F := F) c j)
    ⊢ iprop(∃ f : Buf (Elt F) ((c : Thread nD τ).loc cc0_scratch2), ((c : Thread nD τ).loc cc0_scratch2) ↦{fullShare} f) := by
  refine (bigSep_mono fun i _ => ?_).trans (Ring.pointsTo_blocks_join_exists (Ix := Unit) (Name := ℕ) (U := UU) (Lvl := ℕ) (q := fullShare) (ℓ := (c : Thread nD τ).loc cc0_scratch2) slotS
    (blocks_disjoint _ (fun y : S15x2x512.Idx => (y 0).val) mem_slot) (blocks_cover _ (fun y : S15x2x512.Idx => (y 0).val) mem_slot fun y => (y 0).isLt)
    (fun _ => Classical.arbitrary _))
  unfold slotAny; exact exists_mono fun f => Entails.of_eq (slotPts_eq c i f)

theorem xslot_any (k) (f : Buf (Elt F) ((c : Thread nD τ).loc cc0_scratch0)) : (((c : Thread nD τ).loc cc0_scratch0) ↦[xslotS k]{fullShare} f : sProp 𝕄) ⊢ xslotAny c k := by
  rw [← xslotPts_eq]; unfold xslotAny; iintro H; iexists f; iexact H
theorem xslots_split : iprop(∃ f : Buf (Elt F) ((c : Thread nD τ).loc cc0_scratch0), ((c : Thread nD τ).loc cc0_scratch0) ↦{fullShare} f)
    ⊢ (bigSep Finset.univ fun k : Fin 4 => xslotAny c k : sProp 𝕄) := by
  iintro ⟨%f, H⟩
  iapply ((Entails.of_eq (Ring.pointsTo_blocks (Ix := Unit) (Name := ℕ) (U := UU) (Lvl := ℕ) (q := fullShare) (ℓ := (c : Thread nD τ).loc cc0_scratch0) xslotS
    (blocks_disjoint _ (fun y : S4x256x512.Idx => (y 0).val) mem_xslot) (blocks_cover _ (fun y : S4x256x512.Idx => (y 0).val) mem_xslot fun y => (y 0).isLt) f)).trans (bigSep_mono fun i _ => xslot_any c i f))
  iexact H
theorem xslots_join : (bigSep Finset.univ fun k : Fin 4 => xslotAny (F := F) c k)
    ⊢ iprop(∃ f : Buf (Elt F) ((c : Thread nD τ).loc cc0_scratch0), ((c : Thread nD τ).loc cc0_scratch0) ↦{fullShare} f) := by
  refine (bigSep_mono fun i _ => ?_).trans (Ring.pointsTo_blocks_join_exists (Ix := Unit) (Name := ℕ) (U := UU) (Lvl := ℕ) (q := fullShare) (ℓ := (c : Thread nD τ).loc cc0_scratch0) xslotS
    (blocks_disjoint _ (fun y : S4x256x512.Idx => (y 0).val) mem_xslot) (blocks_cover _ (fun y : S4x256x512.Idx => (y 0).val) mem_xslot fun y => (y 0).isLt)
    (fun _ => Classical.arbitrary _))
  unfold xslotAny; exact exists_mono fun f => Entails.of_eq (xslotPts_eq c i f)

theorem chunks_eq : (((c : Thread nD τ).loc main_arg0) ↦{fullShare} m ((c : Thread nD τ).loc main_arg0) : sProp 𝕄)
    = bigSep Finset.univ fun k : Fin 4 => chunkPts m c k := by
  rw [bigSep_congr fun k _ => chunkPts_eq m c k]
  exact Ring.pointsTo_blocks (Ix := Unit) (Name := ℕ) (U := UU) (Lvl := ℕ) (q := fullShare) (ℓ := (c : Thread nD τ).loc main_arg0) chunkS
    (blocks_disjoint _ (fun y : S1024x512.Idx => (y 0).val / 256) mem_chunk)
    (blocks_cover _ (fun y : S1024x512.Idx => (y 0).val / 256) mem_chunk fun y => by have : (y 0).val < 1024 := (y 0).isLt; show (y 0).val / 256 < 4; omega) _

/-- The buffer of the block sent, whole. -/
theorem send_any : iprop(∃ f : Buf (Elt F) ((c : Thread nD τ).loc cc0_scratch1), ((c : Thread nD τ).loc cc0_scratch1) ↦{fullShare} f) = blockAny (F := F) c sendM := by
  have h : sendM.view.set = Finset.univ := View.set_whole _
  unfold blockAny; rw [h]

theorem slotFull_any (j : Fin 15) : slotFull m c j ⊢ slotAny c j := by
  unfold slotFull slotAny; iintro ⟨%f, -, H⟩; iexists f; iexact H
theorem xslotFull_any (k : Fin 4) : xslotFull m c k ⊢ xslotAny c k := by
  unfold xslotFull xslotAny; iintro ⟨%f, -, H⟩; iexists f; iexact H
end Blocks

end Cert.ArgmaxProof

end
-- ==== Proof.Launch.lean ====
/-
# The launch

The ghost state dealt to the devices, the launch's credits, and the run of the whole mesh: it ends with the result
block in every device's result array, every argument unchanged and every semaphore at zero.
-/
module

public import proofs.«01_k».proof.Proof.Blocks
public import proofs.«01_k».proof.Proof.Gen.KernelIdeal.Points
public import Idealize.ShloMosaic.Lib.Pipeline.CollectiveSegs

@[expose] public section

noncomputable section

namespace Cert.ArgmaxProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix1 ix2 ix3)
open Idealize.ShloMosaic.Transfers (shareTok shareDrop)
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

def s₀ : MemSt nD τ sig (Elt F) := ⟨m, fun _ => 0, ρ⟩

/-! ## The pipeline's one point -/

/-- A device's semaphores, kind by kind. -/
theorem bigSep_cells (Φ : CIx → sProp 𝕄) : bigSep Finset.univ Φ
    = iprop(Φ (.inl ()) ∗ (bigSep Finset.univ fun k => Φ (.inr (.inl k))) ∗ (bigSep Finset.univ fun j => Φ (.inr (.inr (.inl j)))) ∗ bigSep Finset.univ fun j => Φ (.inr (.inr (.inr j)))) := by
  rw [BI.bigSep_univ_sum, BI.bigSep_univ_sum, BI.bigSep_univ_sum, bigSep_univ_eq_bigSepL [()] (by decide) (by decide)]; rfl

/-- The invariants and what every semaphore has reached. -/
def records (K : Dev nD × CIx → ℕ) : sProp 𝕄 :=
  iprop((bigSep Finset.univ fun ci : Dev nD × CIx => cellInv ER (Rd m) (K ci) (cellAt ci.1 ci.2))
    ∗ bigSep Finset.univ fun ci : Dev nD × CIx => reached ER (cellAt ci.1 ci.2) 0)
instance records_persistent (K : Dev nD × CIx → ℕ) : BI.Persistent (records (F := F) m K) := by unfold records; infer_instance

/-- The duties of device `c`'s own semaphores, as minted; -/
def toks (c : Dev nD) : sProp 𝕄 :=
  iprop((bigSep Finset.univ fun j : Fin 15 => dutyTok ER (barCell c) 0 j)
    ∗ (bigSep Finset.univ fun k : Fin 4 => dutyTok ER (copyCell c k) 0 0)
    ∗ (bigSep Finset.univ fun j : Fin 15 => dutyTok ER (sendCell c j) 0 0)
    ∗ bigSep Finset.univ fun j : Fin 15 => dutyTok ER (recvCell c j) 0 0)
/-- the duties it pays. -/
def payToks (c : Dev nD) : sProp 𝕄 :=
  iprop((bigSep Finset.univ fun j : Fin 15 => dutyTok ER (barCell (peer c j)) 0 j)
    ∗ (bigSep Finset.univ fun k : Fin 4 => dutyTok ER (copyCell c k) 0 0)
    ∗ (bigSep Finset.univ fun j : Fin 15 => dutyTok ER (sendCell c j) 0 0)
    ∗ bigSep Finset.univ fun j : Fin 15 => dutyTok ER (recvCell (tgt c j) j) 0 0)
/-- What is device `c`'s alone: its positions and the duties it pays. -/
def linear (c : Dev nD) : sProp 𝕄 := iprop((bigSep Finset.univ fun i : CIx => atPos ER (cellAt c i) 0 ∅ 0) ∗ payToks c)

/-- What the launch gives device `c`. -/
def start (c : Dev nD) : sProp 𝕄 :=
  iprop((∃ K, records m K ∗ linear c) ∗ (cred (tallyAt (barCell c) () 15) ∗ bigSep Finset.univ fun j : Fin 15 => cred (tallyAt (recvCell c j) () N)) ∗ levAts L lv
    ∗ bigSep Finset.univ fun k : Fin 4 => chunkPts m c k)

def Φ₀ (c : Dev nD) : sProp 𝕄 := iprop(∃ K, recs m K ∗ Start m c)

def dats (_ : Fin 1) (c : Dev nD) : Dat τ (Elt F) Unit ℕ UU ℕ cfg0 c where
  A w := m ((cfg0.win w).arr.view.loc (c : Thread nD τ))
  after w _ := match w with
    | ⟨0, _⟩ => outV m c
  Φ t := match t with
    | ⟨0, _⟩ => Φ₀ m c
    | ⟨_ + 1, _⟩ => Finish m c
  q _ := fullShare
  owed t := match t with
    | ⟨0, _⟩ => O₀ c
    | ⟨_ + 1, _⟩ => 0

abbrev stgM : Memref sig .tc .vmem S2x512 .f32 := win0_0.stage (cfg0.slots t0_0 0)

def bodyPre (c : Dev nD) : sProp 𝕄 :=
  iprop(Φ₀ m c ∗ (dats m 0 c).owesAt () t0_0.castSucc ∗ ∃ d, owns (c : Thread nD τ) stgM fullShare ((dats m 0 c).before (0 : Fin 1) t0_0 d))
def bodyPost (c : Dev nD) : sProp 𝕄 :=
  iprop(Finish m c ∗ (dats m 0 c).owesAt () t0_0.succ ∗ owns (c : Thread nD τ) stgM fullShare (outV m c))

theorem owes_open (c : Dev nD) : (dats m 0 c).owesAt () t0_0.castSucc ⊢ (Ow c (O₀ c) : sProp 𝕄) := by
  unfold Dat.owesAt Pipeline.owesWithin Ow
  iintro ⟨%W, -, H⟩; iexists W; iexact H
theorem owes_close (c : Dev nD) : (Ow c 0 : sProp 𝕄) ⊢ (dats m 0 c).owesAt () t0_0.succ := by
  unfold Dat.owesAt Pipeline.owesWithin Ow
  iintro ⟨%W, H⟩; iexists W
  isplitr; · ipureintro; exact fun _ _ => Or.inl trivial
  iexact H

theorem body_run (c : Dev nD) : bodyPre m c ⊢ wpc c (bodyAt0 t0_0) (fun _ => bodyPost m c) := by
  unfold bodyPre Φ₀ bodyPost
  iintro ⟨⟨%K, #HR, HS⟩, HO, %d, Hst⟩
  ihave HO := (owes_open m c) $$ HO
  iapply (body_wp m K c stgM (hstage0_0 0)) $$ HR HS HO [Hst]
  · unfold blockAny owns
    icases Hst with ⟨%f, -, H⟩
    iexists f; iexact H
  iintro HF HO HB
  isplitl [HF]; · iexact HF
  isplitl [HO]; · iapply (owes_close m c); iexact HO
  unfold blockPts owns
  iexact HB

set_option maxRecDepth 8000 in
/-- The body's obligation on device `c`. -/
theorem body_obligation (c : Dev nD) : BodyObligation (dats (F := F) m 0 c) (defs₀ (F := F)) 𝒱₀ () Set.univ := fun t => by
  rw [fin_N0 t, bigSep_W0, bigSep_W0]
  exact body_run m c

/-! ## The ghost state dealt -/

theorem ownSemFacts : Pipeline.OwnSemFacts cfg0.spec osem := by decide

theorem share_eq (c : Dev nD) (w : Fin cfg0.W) : (dats m 0 c).share w = fullShare := by unfold Dat.share; split <;> rfl

def allCells : Finset (GSem nD τ sig) := Finset.univ.map ⟨fun ci : Dev nD × CIx => cellAt ci.1 ci.2, cellAt_injective⟩

/-- The duties minted: a barrier's fifteen, one for each of the rest. -/
abbrev tokOf (ci : Dev nD × (Fin 15 ⊕ OIx)) : GSem nD τ sig × ℕ × Fin 15 := match ci.2 with
  | .inl j => (barCell ci.1, 0, j)
  | .inr i => (cellAt ci.1 (.inr i), 0, 0)
theorem tokOf_injective : Function.Injective tokOf := by
  rintro ⟨c, i⟩ ⟨c', i'⟩ h
  rcases i with j | i <;> rcases i' with j' | i'
  · have h1 := cellAt_injective (a₁ := (c, .inl ())) (a₂ := (c', .inl ())) (congrArg Prod.fst h)
    have h2 : j = j' := congrArg (fun x => x.2.2) h
    rw [h2, show c = c' from congrArg Prod.fst h1]
  · have h1 := cellAt_injective (a₁ := (c, .inl ())) (a₂ := (c', .inr i')) (congrArg Prod.fst h)
    exact absurd (congrArg Prod.snd h1) (fun h => by cases h)
  · have h1 := cellAt_injective (a₁ := (c, .inr i)) (a₂ := (c', .inl ())) (congrArg Prod.fst h)
    exact absurd (congrArg Prod.snd h1) (fun h => by cases h)
  · have h1 := cellAt_injective (a₁ := (c, .inr i)) (a₂ := (c', .inr i')) (congrArg Prod.fst h)
    have h2 := congrArg Prod.snd h1
    rw [show c = c' from congrArg Prod.fst h1, show i = i' from Sum.inr.inj h2]
def allToks : Finset (GSem nD τ sig × ℕ × Fin 15) := Finset.univ.map ⟨tokOf, tokOf_injective⟩

def u₀ : UU :=
  (initOf (Pipeline.cells cfgs cellOf_inj) (Pipeline.launchToks cfgs cellOf_inj), initOf allCells allToks)

/-- What the launch element deals device `c`, -/
def G (c : Dev nD) : sProp 𝕄 :=
  iprop((bigSep Finset.univ fun i : CIx => roundState ER (Rd m) (cellAt c i) 0)
    ∗ (bigSep Finset.univ fun i : CIx => iprop(atPos ER (cellAt c i) 0 ∅ 0 ∗ reached ER (cellAt c i) 0)) ∗ toks c)
/-- and what the step over the whole mesh makes of it. -/
def G' (c : Dev nD) : sProp 𝕄 := iprop(∃ K, records m K ∗ linear c)

theorem fund_all : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun i : CIx => Φ (cellAt c i) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    exact bigSep_congr fun c _ => by unfold toks; rw [BI.bigSep_univ_sum, BI.bigSep_univ_sum, BI.bigSep_univ_sum]; rfl
  iintro HX
  imod (Rounds.fund ER (Rd m) allCells allToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The copies', sends' and receives' semaphores are the kernel's own; -/
theorem ownSems0_eq (c : Dev nD) : (Pipeline.ownSems0 (Ix := Unit) (Name := ℕ) (U := UU) (Lvl := ℕ) (Val := Elt F) (τ := τ) osem c : sProp 𝕄)
    = iprop((bigSep Finset.univ fun k : Fin 4 => semVal (copyCell c k) 0) ∗ (bigSep Finset.univ fun j : Fin 15 => semVal (sendCell c j) 0)
      ∗ bigSep Finset.univ fun j : Fin 15 => semVal (recvCell c j) 0) := by
  unfold Pipeline.ownSems0; rw [BI.bigSep_univ_sum, BI.bigSep_univ_sum]; rfl
/-- the barrier's is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) : iprop((Pipeline.ownSems0 (Ix := Unit) (Name := ℕ) (U := UU) (Lvl := ℕ) (Val := Elt F) (τ := τ) osem c : sProp 𝕄) ∗ unscopedSems0 c) ⊢ (bigSep Finset.univ fun i : CIx => semVal (cellAt c i) 0 : sProp 𝕄) := by
  rw [ownSems0_eq, unscopedSems0_eq, bigSep_cells]
  iintro ⟨H, HB⟩
  isplitl [HB] <;> iassumption

theorem core_alloc (c : Dev nD) :
    iprop((Pipeline.ownSems0 (Ix := Unit) (Name := ℕ) (U := UU) (Lvl := ℕ) (Val := Elt F) (τ := τ) osem c : sProp 𝕄) ∗ unscopedSems0 c ∗ G m c)
      ⊢ |={Set.univ}=> iprop((bigSep Finset.univ fun i : CIx => iprop(∃ κ : ℕ, cellInv ER (Rd m) κ (cellAt c i)))
          ∗ (bigSep Finset.univ fun i : CIx => iprop(atPos ER (cellAt c i) 0 ∅ 0 ∗ reached ER (cellAt c i) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun i : CIx => semVal (cellAt c i) 0) ∗ bigSep Finset.univ fun i : CIx => roundState ER (Rd m) (cellAt c i) 0)
      ⊢ (|={Set.univ}=> bigSep Finset.univ fun i : CIx => iprop(∃ κ : ℕ, cellInv ER (Rd m) κ (cellAt c i)) : sProp 𝕄) from by
        rw [← bigSep_sep']
        exact (bigSep_mono fun i _ => (Rounds.body_intro ER (Rd m) (cellAt c i)).trans inv_alloc).trans (bigSep_fupd _ _)) $$ [Hv Hst] with Hinv
  · isplitl [Hv] <;> iassumption
  imodintro
  isplitl [Hinv]; · iexact Hinv
  isplitl [Hat] <;> iassumption

/-- A star over devices and steps, each step's devices moved round by a bijection. -/
theorem bigSep_around (e : Fin 15 → Dev nD ≃ Dev nD) (Φ : Dev nD → Fin 15 → sProp 𝕄) :
    (bigSep Finset.univ fun c : Dev nD => bigSep Finset.univ fun j : Fin 15 => Φ c j)
      = bigSep Finset.univ fun c : Dev nD => bigSep Finset.univ fun j : Fin 15 => Φ (e j c) j := by
  let E : Dev nD × Fin 15 ≃ Dev nD × Fin 15 :=
    ⟨fun x => (e x.2 x.1, x.2), fun x => ((e x.2).symm x.1, x.2), fun x => by simp, fun x => by simp⟩
  rw [← bigSep_univ_prod (fun x : Dev nD × Fin 15 => Φ x.1 x.2), ← bigSep_univ_prod (fun x : Dev nD × Fin 15 => Φ (e x.2 x.1) x.2)]
  exact bigSep_univ_equiv E fun x : Dev nD × Fin 15 => Φ x.1 x.2

/-- The duties dealt around the mesh, step by step: a barrier's `j`th to the device `j + 1` places before, a landing
    slot's to the device that sends to it. -/
theorem toks_around : (bigSep Finset.univ fun c : Dev nD => (toks c : sProp 𝕄)) ⊢ bigSep Finset.univ fun c : Dev nD => payToks c := by
  have hB : (bigSep Finset.univ fun c : Dev nD => bigSep Finset.univ fun j : Fin 15 => (dutyTok ER (barCell c) 0 j : sProp 𝕄))
      = bigSep Finset.univ fun c : Dev nD => bigSep Finset.univ fun j : Fin 15 => dutyTok ER (barCell (peer c j)) 0 j := by
    exact bigSep_around rot fun (c : Dev nD) (j : Fin 15) => (dutyTok ER (barCell c) 0 j : sProp 𝕄)
  have hV : (bigSep Finset.univ fun c : Dev nD => bigSep Finset.univ fun j : Fin 15 => (dutyTok ER (recvCell c j) 0 0 : sProp 𝕄))
      = bigSep Finset.univ fun c : Dev nD => bigSep Finset.univ fun j : Fin 15 => dutyTok ER (recvCell (tgt c j) j) 0 0 := by
    exact bigSep_around (fun j => (rot j).symm) fun (c : Dev nD) (j : Fin 15) => (dutyTok ER (recvCell c j) 0 0 : sProp 𝕄)
  unfold toks payToks
  simp only [bigSep_sep']
  rw [hB, hV]

theorem bigSep_with {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun i : CIx => iprop(∃ κ : ℕ, cellInv ER (Rd m) κ (cellAt c i)))
          ∗ (bigSep Finset.univ fun i : CIx => iprop(atPos ER (cellAt c i) 0 ∅ 0 ∗ reached ER (cellAt c i) 0)) ∗ toks c) : sProp 𝕄)
      ⊢ bigSep Finset.univ (G' m) := by
  rw [bigSep_sep', bigSep_sep', ← bigSep_univ_prod (fun ci : Dev nD × CIx => iprop(∃ κ : ℕ, cellInv ER (Rd m) κ (cellAt ci.1 ci.2))),
    bigSep_congr (s := Finset.univ) (fun (c : Dev nD) _ => bigSep_sep' Finset.univ (fun i : CIx => (atPos ER (cellAt c i) 0 ∅ 0 : sProp 𝕄)) (fun i => reached ER (cellAt c i) 0)),
    bigSep_sep', ← bigSep_univ_prod (fun ci : Dev nD × CIx => (reached ER (cellAt ci.1 ci.2) 0 : sProp 𝕄))]
  iintro ⟨HI, ⟨Hat, #HR⟩, Htok⟩
  ihave HK := (BI.bigSep_exists_pi Finset.univ (fun (ci : Dev nD × CIx) (κ : ℕ) => (cellInv ER (Rd m) κ (cellAt ci.1 ci.2) : sProp 𝕄))) $$ HI
  icases HK with ⟨%K, #HI⟩
  ihave Htk := (toks_around (F := F)) $$ Htok
  iapply (bigSep_with (R := records m K) (Φ := fun c => linear c) fun c _ => show iprop(records m K ∗ linear c) ⊢ G' m c from by
    unfold G'; iintro H; iexists K; iexact H)
  isplitr
  · unfold records; isplitl; · iexact HI
    iexact HR
  · unfold linear; rw [bigSep_sep']
    isplitl [Hat] <;> iassumption

theorem glob : (bigSep Finset.univ fun c => iprop((Pipeline.ownSems0 (Ix := Unit) (Name := ℕ) (U := UU) (Lvl := ℕ) (Val := Elt F) (τ := τ) osem c : sProp 𝕄) ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch's credits -/

theorem sum_tally (g' : Fin 15 → GSem nD τ sig) (k : ℕ) (g : GSem nD τ sig) :
    (∑ j ∈ Finset.univ.filter (fun j : Fin 15 => 0 ≤ j.val), (tallyAt (g' j) () k : CellTallies nD τ sig Unit)) g ()
      = ∑ j : Fin 15, if g = g' j then k else 0 := by
  rw [Finset.sum_apply, Finsupp.finset_sum_apply, Finset.filter_true_of_mem fun _ _ => Nat.zero_le _]
  exact Finset.sum_congr rfl fun j _ => by rw [tallyAt_apply]; simp only [and_true]

theorem owed_eq (d : Dev nD) (g : GSem nD τ sig) : O₀ d g ()
    = (∑ j : Fin 15, if g = recvCell (tgt d j) j then N else 0) + ∑ j : Fin 15, if g = barCell (peer d j) then 1 else 0 := by
  unfold O₀ ORecv OBar
  rw [Pi.add_apply, Finsupp.add_apply, sum_tally, sum_tally]

theorem cell_eq {c d : Dev nD} {i i' : CIx} : cellAt c i = cellAt d i' ↔ c = d ∧ i = i' :=
  ⟨fun h => Prod.mk.inj (cellAt_injective (a₁ := (c, i)) (a₂ := (d, i')) h), fun h => by rw [h.1, h.2]⟩

/-- A barrier is owed fifteen units in all, -/
theorem launch_bar (c : Dev nD) :
    tallyOn (barCell c) (launchCredit (Pipeline.owing O₀) 0 (barCell c)) = (tallyAt (barCell c) () 15 : CellTallies nD τ sig Unit) := by
  unfold tallyAt; refine congrArg _ (Finsupp.ext fun u => ?_); cases u
  rw [Pipeline.launchCredit_owing, Finsupp.single_eq_same, Finset.sum_congr rfl fun d _ => owed_eq d _, Finset.sum_add_distrib,
    Finset.sum_comm (f := fun (d : Dev nD) (j : Fin 15) => if barCell c = barCell (peer d j) then 1 else 0)]
  have h1 : ∀ (d : Dev nD) (j : Fin 15), (if barCell c = recvCell (tgt d j) j then N else 0) = 0 := fun d j =>
    if_neg fun h => by cases (cell_eq.mp h).2
  have h2 : ∀ j : Fin 15, (∑ d : Dev nD, if barCell c = barCell (peer d j) then 1 else 0) = 1 := fun j => by
    rw [Finset.sum_congr rfl fun d _ => show (if barCell c = barCell (peer d j) then 1 else 0) = if tgt c j = d then 1 else 0 from by
      refine if_congr ⟨fun h => ?_, fun h => ?_⟩ rfl rfl
      · rw [(cell_eq.mp h).1, tgt_peer]
      · rw [← h, peer_tgt]]
    rw [Finset.sum_ite_eq Finset.univ (tgt c j) fun _ => 1, if_pos (Finset.mem_univ _)]
  rw [Finset.sum_congr rfl fun d _ => Finset.sum_congr rfl fun j _ => h1 d j, Finset.sum_congr rfl fun j _ => h2 j]
  simp

/-- a receive semaphore its transfer's credit. -/
theorem launch_recv (c : Dev nD) (i : Fin 15) :
    tallyOn (recvCell c i) (launchCredit (Pipeline.owing O₀) 0 (recvCell c i)) = (tallyAt (recvCell c i) () N : CellTallies nD τ sig Unit) := by
  unfold tallyAt; refine congrArg _ (Finsupp.ext fun u => ?_); cases u
  rw [Pipeline.launchCredit_owing, Finsupp.single_eq_same, Finset.sum_congr rfl fun d _ => owed_eq d _, Finset.sum_add_distrib]
  have h1 : ∀ (d : Dev nD) (j : Fin 15), (if recvCell c i = barCell (peer d j) then 1 else 0) = 0 := fun d j =>
    if_neg fun h => by cases (cell_eq.mp h).2
  have h2 : ∀ d : Dev nD, (∑ j : Fin 15, if recvCell c i = recvCell (tgt d j) j then N else 0) = if peer c i = d then N else 0 := fun d => by
    rw [Finset.sum_congr rfl fun j _ => show (if recvCell c i = recvCell (tgt d j) j then N else 0) = if i = j then (if peer c i = d then N else 0) else 0 from by
      by_cases hj : i = j
      · subst hj
        rw [if_pos rfl]
        refine if_congr ⟨fun h => ?_, fun h => ?_⟩ rfl rfl
        · rw [(cell_eq.mp h).1, peer_tgt]
        · rw [← h, tgt_peer]
      · rw [if_neg hj, if_neg fun h => hj (Sum.inr.inj (Sum.inr.inj (Sum.inr.inj (cell_eq.mp h).2)))]]
    rw [Finset.sum_ite_eq Finset.univ i fun _ => (if peer c i = d then N else 0), if_pos (Finset.mem_univ _)]
  rw [Finset.sum_congr rfl fun d _ => Finset.sum_congr rfl fun j _ => h1 d j, Finset.sum_congr rfl fun d _ => h2 d,
    Finset.sum_ite_eq Finset.univ (peer c i) fun _ => N, if_pos (Finset.mem_univ _)]
  simp

theorem recvLoc_injective : Function.Injective (fun j : Fin 15 => csem (.inr (.inr (.inr j)))) := fun i j h =>
  Sum.inr.inj (Sum.inr.inj (Sum.inr.inj (Option.some.inj ((kindOf_csem _).symm.trans ((congrArg kindOf h).trans (kindOf_csem _))))))

theorem creds (c : Dev nD) :
    (Pipeline.launchCred O₀ c : sProp 𝕄) ⊢ iprop(cred (tallyAt (barCell c) () 15) ∗ bigSep Finset.univ fun j : Fin 15 => cred (tallyAt (recvCell c j) () N)) := by
  unfold Pipeline.launchCred
  rw [bigSep_univ_at _ (SemLoc.reg barS), launch_bar]
  refine sep_mono_right ?_
  rw [bigSep_congr (s := Finset.univ) fun (j : Fin 15) _ => by rw [← launch_recv]]
  have hm := bigSep_map (M := 𝕄) (s := Finset.univ) ⟨_, recvLoc_injective⟩ (Φ := fun sm : SemLoc sig => (cred (tallyOn ((c : Thread nD τ), sm) (launchCredit (Pipeline.owing O₀) 0 ((c : Thread nD τ), sm))) : sProp 𝕄))
  refine (BI.bigSep_subset ?_).trans (Entails.of_eq hm)
  intro x hx
  obtain ⟨j, -, rfl⟩ := Finset.mem_map.mp hx
  exact Finset.mem_erase.mpr ⟨fun h => (by cases h), Finset.mem_univ _⟩

/-! ## Into the body and out of it -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, show cfg0.spec = spec0 from rfl, unscopedRest0_eq, chunks_eq m c]
  iintro ⟨Hx, Hlev, Hcr, -, HG⟩
  ihave Hc := (creds (F := F) c) $$ Hcr
  imodintro
  unfold start G'
  isplitl
  · isplitl [HG]; · iexact HG
    isplitl [Hc]; · iexact Hc
    isplitl [Hlev] <;> iassumption
  · iempintro

theorem start_body (K : Dev nD × CIx → ℕ) (c : Dev nD) :
    iprop((records m K ∗ linear c) ∗ (cred (tallyAt (barCell c) () 15) ∗ bigSep Finset.univ fun j : Fin 15 => cred (tallyAt (recvCell c j) () N)) ∗ levAts L lv
        ∗ (bigSep Finset.univ fun k : Fin 4 => chunkPts m c k) ∗ (bigSep Finset.univ fun k : Fin 4 => xslotAny c k) ∗ blockAny c sendM ∗ bigSep Finset.univ fun j : Fin 15 => slotAny c j)
      ⊢ Φ₀ m c := by
  unfold Φ₀ Start linear payToks recs records
  rw [bigSep_cells]
  simp only [bigSep_sep']
  iintro ⟨⟨HR, ⟨HaB, HaC, HaS, HaV⟩, HtB, HtC, HtS, HtV⟩, ⟨HcB, HcV⟩, HL, Hch, Hx, Hs, Hsl⟩
  iexists K
  isplitl [HR HL]
  · isplitl [HR] <;> iassumption
  isplitl [HtB Hsl]
  · isplitl [HtB] <;> iassumption
  isplitl [Hch Hx HtC]
  · isplitl [Hch]; · iexact Hch
    isplitl [Hx] <;> iassumption
  isplitl [HaC]; · iexact HaC
  isplitl [Hs]; · iexact Hs
  isplitl [HcB HaB]
  · isplitl [HcB] <;> iassumption
  isplitl [HtS]; · iexact HtS
  isplitl [HtV]; · iexact HtV
  isplitl [HcV]; · iexact HcV
  isplitl [HaV] <;> iassumption

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, show cfg0.spec = spec0 from rfl, scopedRest0_eq, send_any]
  unfold start
  iintro ⟨⟨⟨%K, HG⟩, Hc, HL, Hch⟩, -, H0, H1, H2⟩
  ihave H0 := (xslots_split c) $$ H0
  ihave H2 := (slots_split c) $$ H2
  iapply (start_body m K c)
  isplitl [HG]; · iexact HG
  isplitl [Hc]; · iexact Hc
  isplitl [HL]; · iexact HL
  isplitl [Hch]; · iexact Hch
  isplitl [H0]; · iexact H0
  isplitl [H1] <;> iassumption

/-- What is left with device `c`: its barrier at zero, its argument as it was. -/
def rest (c : Dev nD) : sProp 𝕄 := iprop(unscopedSems0 c ∗ (((c : Thread nD τ).loc main_arg0) ↦{fullShare} m ((c : Thread nD τ).loc main_arg0)))

theorem xfull_join (c : Dev nD) : (bigSep Finset.univ fun k : Fin 4 => xslotFull m c k : sProp 𝕄)
    ⊢ iprop(∃ f : Buf (Elt F) ((c : Thread nD τ).loc cc0_scratch0), ((c : Thread nD τ).loc cc0_scratch0) ↦{fullShare} f) :=
  (bigSep_mono fun k _ => xslotFull_any m c k).trans (xslots_join c)
theorem full_join (c : Dev nD) : (bigSep Finset.univ fun j : Fin 15 => slotFull m c j : sProp 𝕄)
    ⊢ iprop(∃ f : Buf (Elt F) ((c : Thread nD τ).loc cc0_scratch2), ((c : Thread nD τ).loc cc0_scratch2) ↦{fullShare} f) :=
  (bigSep_mono fun j _ => slotFull_any m c j).trans (slots_join c)

theorem phi1_exit (c : Dev nD) :
    (dats m 0 c).Φ (Fin.last cfg0.N) ⊢ iprop(rest m c ∗ Pipeline.ownSems0 osem c ∗ Pipeline.scopedRest cfg0.spec c) := by
  rw [show (dats m 0 c).Φ (Fin.last cfg0.N) = Finish m c from rfl, show cfg0.spec = spec0 from rfl, scopedRest0_eq, send_any, ownSems0_eq]
  unfold rest Finish
  rw [unscopedSems0_eq, chunks_eq]
  simp only [bigSep_sep']
  iintro ⟨⟨⟨Hx, Hch⟩, HvC⟩, ⟨Hsl, HvV⟩, Hs, HvS, HvB⟩
  isplitl [HvB Hch]
  · isplitl [HvB] <;> iassumption
  isplitl [HvC HvS HvV]
  · isplitl [HvC]; · iexact HvC
    isplitl [HvS] <;> iassumption
  isplitl [Hx]
  · iapply (xfull_join m c)
    iexact Hx
  isplitl [Hs]; · iexact Hs
  iapply (full_join m c)
  iexact Hsl

theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m 0 c).arrAt w cfg0.N

def QY (c : Dev nD) (s : MemSt nD τ sig (Elt F)) : Prop :=
  (∀ sm : SemLoc sig, sm.isScoped .tc = false → s.sem ((c.tc : Thread nD τ), sm) = 0) ∧ s.mem ((c : Thread nD τ).loc main_arg0) = m ((c : Thread nD τ).loc main_arg0)

def QC : PUnit × MemSt nD τ sig (Elt F) → Prop := fun r =>
  ∀ c : Dev nD, (∀ w : Fin cfg0.W, r.2.mem ((cfg0.win w).arr.view.loc (c : Thread nD τ)) = finalA m c w)
    ∧ r.2.mem ((c : Thread nD τ).loc main_arg0) = m ((c : Thread nD τ).loc main_arg0)

theorem rest_read (c : Dev nD) (s' : Phys nD τ sig (Elt F)) : iprop(rest m c ∗ SI s') ⊢ (|={Set.univ}=> iprop(⌜QY m c s'.mem⌝ ∗ SI s') : sProp 𝕄) := by
  unfold rest QY
  iintro ⟨⟨Hu, Hx⟩, HSI⟩
  icombine HSI Hx gives %h0
  imod (Pipeline.unscopedSems0_read (X := unscopedSems0 c) (c := c) fupd_intro s') $$ [Hu HSI] with ⟨%h1, HSI⟩
  · isplitl [Hu] <;> iassumption
  imodintro
  isplitr; · ipureintro; exact ⟨h1, Buf.eq_of_forall_mem_univ h0⟩
  iexact HSI

set_option maxRecDepth 8000 in
/-- Every fair execution of the sixteen devices ends, and ends with the result arrays computed, the arguments as they
    were and every semaphore at zero. -/
theorem run_main : θ_run defs (onTc (τ := τ) (main (F := F))) (s₀ m ρ) (fun r => QC m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ _ => rfl) (hpf := fun _ k => k.elim0)
    (X := start m) (Y := rest m) (Z := fun _ => iprop(emp))
    (hX := start_intro m ρ) (hin := phi0_intro m) (hout := phi1_exit m)
    (QY := QY m)
    (hY := fun c s' => by
      iintro ⟨Hr, -, HSI⟩
      iapply (rest_read m c s')
      isplitl [Hr] <;> iassumption)
    (hQ := fun _ h hs => ⟨fun c => ⟨(h c).1, (h c).2.2.2⟩, sem_eq_zero hs fun c => (h c).2.2.1⟩)

/-- The result array after the run is the block computed. -/
theorem finalA_out (c : Dev nD) : finalA m c (0 : Fin 1) = outV m c := by
  refine (dats m 0 c).arrAt_eq_of_cover (0 : Fin 1) (outV m c) (fun t _ => ?_) fun i => ⟨t0_0, flush0_0 _, ?_⟩
  · rw [fin_N0 t]
    show (cfg0.win 0).cut (grid0.coords t0_0) (outV m c) = _
    generalize outV m c = X
    exact (Memref.read_access_unit_zero (Elt F) main_v1 (show (fun a => win0_0.index t0_0 a * main_v1.ty.shape.size a) = fun _ => 0 from
      funext fun a => by fin_cases a <;> decide) (fun a => by fin_cases a <;> decide) X).symm
  · show i ∈ ((View.whole main_v1).slice (win0_0.rect t0_0)).set
    rw [View.set_slice_whole, Rect.mem_set_unit]
    have e : ∀ a, win0_0.index t0_0 a * win0_0.size a = 0 ∧ win0_0.xsize (grid0.coords t0_0) a = S2x512.size a := by decide +kernel
    intro a
    show win0_0.index t0_0 a * win0_0.size a ≤ (i a : Nat) ∧ (i a : Nat) < win0_0.index t0_0 a * win0_0.size a + win0_0.xsize (grid0.coords t0_0) a
    rw [(e a).1, (e a).2, Nat.zero_add]
    exact ⟨Nat.zero_le _, (i a).isLt⟩

end Cert.ArgmaxProof

end
-- ==== Proof.Ref.lean ====
/-
# The reference's run

The reference is a straight line of array operations on one device: from any memory it ends with the result array at
`refOut` of the argument, the argument as it was.
-/
module

public import proofs.«01_k».proof.Proof.Gen.ReferenceIdeal
public import Idealize.ShloMosaic.Lib.StableHlo.Run

@[expose] public section

noncomputable section

namespace Cert.ArgmaxProof.Ref

open Cert.ReferenceIdeal Cert.ReferenceIdeal.Gen
open Idealize.ShloMosaic Idealize.ShloMosaic.TcCoe Idealize.ShloMosaic.StableHlo Idealize.SL.Sem

variable {F : FTy → Type} [FloatOps F]

/-- Each column's first row of its largest value, -/
def refIdx (x : FVec F S16384x512 .f32) : IVec S512 32 := fun j =>
  (Host.argReduce reducer_argmax_f32_i32 x (iotaInDim S16384x512 32 0) (constant S_ .f32 0xFF800000#32) (constantI S_ 32 0#32)
    reducesTo_S16384x512_S512_d0 h_S_ j).2
/-- that value, -/
def refMax (x : FVec F S16384x512 .f32) : FVec F S512 .f32 :=
  Host.reduce FloatOps.maximumf x (constant S_ .f32 0xFF800000#32) reducesTo_S16384x512_S512_d0 h_S_
/-- and the two rows of the result. -/
def refOut (x : FVec F S16384x512 .f32) : FVec F S2x512 .f32 :=
  concatenate S2x512 0 [⟨S1x512, broadcastInDim S1x512 ![1] bcast_S512_S1x512_1 (refMax x)⟩,
    ⟨S1x512, broadcastInDim S1x512 ![1] bcast_S512_S1x512_1 (sitofp (F := F) .f32 (refIdx x))⟩] concatenates_S1x512_S1x512_S2x512_d0

/-- @main's operations, in order. -/
abbrev ops : List (HloOp τ sig (Elt F)) :=
  [ TRef.nullary main_call0.v0 (iotaInDim S16384x512 32 0),
    TRef.nullary main_call0.cst (constant S_ .f32 0xFF800000#32),
    TRef.nullary main_call0.c (constantI S_ 32 0#32),
    TRef.quaternary (.of main_arg0) main_call0.v0 main_call0.cst main_call0.c main_call0.v1_0
      (fun x y u v j => (Host.argReduce reducer_argmax_f32_i32 x y u v reducesTo_S16384x512_S512_d0 h_S_ j).1),
    TRef.quaternary (.of main_arg0) main_call0.v0 main_call0.cst main_call0.c main_call0.v1_1
      (fun x y u v j => (Host.argReduce reducer_argmax_f32_i32 x y u v reducesTo_S16384x512_S512_d0 h_S_ j).2),
    unary main_v0 main_v1 (sitofp .f32 : (⟨S512, .i32⟩ : BufTy).Contents (Elt F) → (⟨S512, .f32⟩ : BufTy).Contents (Elt F)),
    nullary main_cst (constant S_ .f32 0xFF800000#32),
    binary main_arg0 main_cst main_v2 ((fun x v => Host.reduce FloatOps.maximumf x v reducesTo_S16384x512_S512_d0 h_S_) :
      (⟨S16384x512, .f32⟩ : BufTy).Contents (Elt F) → (⟨S_, .f32⟩ : BufTy).Contents (Elt F) → (⟨S512, .f32⟩ : BufTy).Contents (Elt F)),
    unary main_v2 main_v3 (broadcastInDim S1x512 ![1] bcast_S512_S1x512_1 : (⟨S512, .f32⟩ : BufTy).Contents (Elt F) → (⟨S1x512, .f32⟩ : BufTy).Contents (Elt F)),
    unary main_v1 main_v4 (broadcastInDim S1x512 ![1] bcast_S512_S1x512_1 : (⟨S512, .f32⟩ : BufTy).Contents (Elt F) → (⟨S1x512, .f32⟩ : BufTy).Contents (Elt F)),
    binary main_v3 main_v4 main_v5 ((fun a b => concatenate S2x512 0 [⟨S1x512, a⟩, ⟨S1x512, b⟩] concatenates_S1x512_S1x512_S2x512_d0) :
      (⟨S1x512, .f32⟩ : BufTy).Contents (Elt F) → (⟨S1x512, .f32⟩ : BufTy).Contents (Elt F) → (⟨S2x512, .f32⟩ : BufTy).Contents (Elt F)) ]

theorem main_eq (c : Dev nD) : main (F := F) c = seq ops := rfl

/-- What the operations leave in the result's buffer, -/
theorem out_eq (V : Valuation τ sig (Elt F)) : after ops V (main_v5 : DevRef τ sig) = refOut (V (main_arg0 : DevRef τ sig)) := by
  after_results
  rfl
/-- and in the argument's. -/
theorem arg0_eq (V : Valuation τ sig (Elt F)) : after ops V (main_arg0 : DevRef τ sig) = V (main_arg0 : DevRef τ sig) := by
  after_results

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., nullary_bufs_sub .., nullary_bufs_sub .., quaternary_bufs_sub .., quaternary_bufs_sub .., unary_bufs_sub ..,
    nullary_bufs_sub .., binary_bufs_sub .., unary_bufs_sub .., unary_bufs_sub .., binary_bufs_sub ..⟩

/-- Every fair execution ends, with the result at `refOut` of the argument and the argument as it was. -/
theorem run_main (m : (ℓ : Loc nD τ sig) → Buf (Elt F) ℓ) (ρ : Dev nD → PrngReg) :
    θ_run defs (onTc (τ := τ) (main (F := F))) ⟨m, fun _ => 0, ρ⟩ fun r =>
      ∀ c : Dev nD, r.2.mem ((c.tc : Thread nD τ).loc main_v5) = refOut (m ((c.tc : Thread nD τ).loc main_arg0))
        ∧ r.2.mem ((c.tc : Thread nD τ).loc main_arg0) = m ((c.tc : Thread nD τ).loc main_arg0) :=
  (θ_run defs _ _).mono (fun _ h c => ⟨(h c main_v5).trans (out_eq _), (h c main_arg0).trans (arg0_eq _)⟩)
    (run_seq scopedRefs_eq scopedSems_eq defs main (fun _ => ops) main_eq (fun _ => ops_sub) m ρ)

end Cert.ArgmaxProof.Ref

end
-- ==== Proof.Best.lean ====
/-
# The first row of the largest value

`Best g S v i`: over the rows `S`, `v` is the largest value of `g` and `i` the first row that has it. There is one such
pair at most, two of them merge, and a fold over rows in any order finds it.
-/
module

public import Idealize.ShloMosaic.PureOps.Ideal
public import Idealize.ShloMosaic.PureOps.Ideal.Laws
public import Idealize.ShloMosaic.Lib.WordArith

@[expose] public section

noncomputable section

namespace Cert.ArgmaxProof

open Idealize.ShloMosaic

/-- `v` is the largest value of `g` over `S`, and `i` the first row of `S` that has it. -/
structure Best (g : ℕ → EReal) (S : Set ℕ) (v : EReal) (i : ℕ) : Prop where
  mem : i ∈ S
  val : g i = v
  le : ∀ r ∈ S, g r ≤ v
  first : ∀ r ∈ S, g r = v → i ≤ r

variable {g : ℕ → EReal} {S T : Set ℕ} {v w : EReal} {i k : ℕ}

theorem Best.unique (h : Best g S v i) (h' : Best g S w k) : v = w ∧ i = k := by
  have hv : v = w := le_antisymm (h.val ▸ h'.le i h.mem) (h'.val ▸ h.le k h'.mem)
  exact ⟨hv, le_antisymm (h.first k h'.mem (h'.val.trans hv.symm)) (h'.first i h.mem (h.val.trans hv))⟩

/-- Of two pairs, the second where its value is larger, or the same at an earlier row. -/
theorem Best.merge (h : Best g S v i) (h' : Best g T w k) (c : Prop) [Decidable c] (hc : c ↔ v < w ∨ (w = v ∧ k < i)) :
    Best g (S ∪ T) (if c then w else v) (if c then k else i) := by
  by_cases hd : c
  · rw [if_pos hd, if_pos hd]
    rcases hc.mp hd with hlt | ⟨rfl, hki⟩
    · refine ⟨Or.inr h'.mem, h'.val, ?_, ?_⟩
      · rintro r (hr | hr)
        · exact (h.le r hr).trans hlt.le
        · exact h'.le r hr
      · rintro r (hr | hr) e
        · exact absurd (e ▸ h.le r hr) (not_le.mpr hlt)
        · exact h'.first r hr e
    · refine ⟨Or.inr h'.mem, h'.val, ?_, ?_⟩
      · rintro r (hr | hr)
        · exact h.le r hr
        · exact h'.le r hr
      · rintro r (hr | hr) e
        · exact hki.le.trans (h.first r hr e)
        · exact h'.first r hr e
  · rw [if_neg hd, if_neg hd]
    have hn : ¬ (v < w ∨ (w = v ∧ k < i)) := fun e => hd (hc.mpr e)
    have hle : w ≤ v := not_lt.mp fun e => hn (Or.inl e)
    refine ⟨Or.inl h.mem, h.val, ?_, ?_⟩
    · rintro r (hr | hr)
      · exact h.le r hr
      · exact (h'.le r hr).trans hle
    · rintro r (hr | hr) e
      · exact h.first r hr e
      · have hw : w = v := le_antisymm hle (e ▸ h'.le r hr)
        exact (not_lt.mp fun e' => hn (Or.inr ⟨hw, e'⟩)).trans (h'.first r hr (e.trans hw.symm))

/-! ## A largest value and its first row by two folds -/

/-- The fold of `max` from the least value is a value that is taken, -/
theorem fold_max_spec {n : ℕ} (hn : 0 < n) (f : Fin n → EReal) :
    (∀ r, f r ≤ Finset.univ.fold max ⊥ f) ∧ ∃ r, f r = Finset.univ.fold max ⊥ f := by
  have hle : ∀ r, f r ≤ Finset.univ.fold max ⊥ f := fun r => (Finset.le_fold_max _).mpr (Or.inr ⟨r, Finset.mem_univ _, le_rfl⟩)
  refine ⟨hle, ?_⟩
  rcases (Finset.le_fold_max (s := Finset.univ) (f := f) (b := (⊥ : EReal)) (Finset.univ.fold max ⊥ f)).mp le_rfl with hb | ⟨r, -, hr⟩
  · exact ⟨⟨0, hn⟩, le_antisymm (hle _) (hb.trans bot_le)⟩
  · exact ⟨r, le_antisymm (hle r) hr⟩

/-- the signed least of small words is the least of their numbers, -/
theorem fold_minsi_toNat {ι : Type} [DecidableEq ι] (s : Finset ι) (b : BitVec 32) (f : ι → BitVec 32) (hb : b.toNat < 2 ^ 31) (hf : ∀ x, (f x).toNat < 2 ^ 31) :
    (s.fold IntOp.minsi b f).toNat = s.fold min b.toNat (fun x => (f x).toNat) ∧ (s.fold IntOp.minsi b f).toNat < 2 ^ 31 := by
  induction s using Finset.induction_on with
  | empty => simpa using hb
  | insert x s hx ih =>
    rw [Finset.fold_insert hx, Finset.fold_insert hx]
    have h := WordArith.toNat_minsi_of_lt (f x) (s.fold IntOp.minsi b f) (hf x) ih.2
    have h' : (IntOp.minsi (f x) (s.fold IntOp.minsi b f)).toNat = min (f x).toNat (s.fold IntOp.minsi b f).toNat := h
    rw [h', ih.1]
    exact ⟨rfl, lt_of_le_of_lt (min_le_left _ _) (hf x)⟩

/-- and the least of the rows that have a property, the others counted as `n`, is the first such row. -/
theorem fold_min_first {n b : ℕ} (hb : n ≤ b) (p : Fin n → Prop) [DecidablePred p] (hp : ∃ r, p r) :
    ∃ i : Fin n, p i ∧ Finset.univ.fold min b (fun r : Fin n => if p r then r.val else n) = i.val ∧ ∀ r, p r → i.val ≤ r.val := by
  obtain ⟨r₀, h₀⟩ := hp
  have hle : ∀ r, p r → Finset.univ.fold min b (fun r : Fin n => if p r then r.val else n) ≤ r.val := fun r hr =>
    (Finset.fold_min_le _).mpr (Or.inr ⟨r, Finset.mem_univ _, by rw [if_pos hr]⟩)
  generalize hN : Finset.univ.fold min b (fun r : Fin n => if p r then r.val else n) = N at hle
  have hlt : N < n := lt_of_le_of_lt (hle r₀ h₀) r₀.isLt
  rcases (Finset.fold_min_le (s := Finset.univ) (f := fun r : Fin n => if p r then r.val else n) (b := b) N).mp hN.le with h | ⟨r, -, hr⟩
  · omega
  · by_cases hpr : p r
    · rw [if_pos hpr] at hr
      exact ⟨r, hpr, le_antisymm (hle r hpr) hr, fun r' hr' => hr.trans (hle r' hr')⟩
    · rw [if_neg hpr] at hr; omega

/-! ## A fold over pairs -/

/-- As `Best`, but the least value at row 0 where there may be no row yet. -/
structure Lead (g : ℕ → EReal) (S : Set ℕ) (v : EReal) (i : ℕ) : Prop where
  at_ : (i ∈ S ∧ g i = v) ∨ (v = ⊥ ∧ i = 0)
  le : ∀ r ∈ S, g r ≤ v
  first : ∀ r ∈ S, g r = v → i ≤ r

theorem Lead.best (h : Lead g S v i) (h0 : 0 ∈ S) : Best g S v i := by
  rcases h.at_ with ⟨hm, hv⟩ | ⟨rfl, rfl⟩
  · exact ⟨hm, hv, h.le, h.first⟩
  · exact ⟨h0, le_antisymm (h.le 0 h0) bot_le, h.le, h.first⟩

theorem Lead.step (h : Lead g S v i) (r : ℕ) :
    Lead g (S ∪ {r}) (if g r < v then v else g r) (if g r < v ∨ (v = g r ∧ i < r) then i else r) := by
  by_cases hlt : g r < v
  · rw [if_pos hlt, if_pos (Or.inl hlt)]
    refine ⟨h.at_.imp (fun e => ⟨Or.inl e.1, e.2⟩) id, ?_, ?_⟩
    · rintro s (hs | rfl)
      · exact h.le s hs
      · exact hlt.le
    · rintro s (hs | rfl) e
      · exact h.first s hs e
      · exact absurd e hlt.ne
  · rw [if_neg hlt]
    have hge : v ≤ g r := not_lt.mp hlt
    by_cases heq : v = g r ∧ i < r
    · rw [if_pos (Or.inr heq)]
      obtain ⟨hv, hi⟩ := heq
      refine ⟨?_, ?_, ?_⟩
      · rw [← hv]; exact h.at_.imp (fun e => ⟨Or.inl e.1, e.2⟩) id
      · rintro s (hs | rfl)
        · exact (h.le s hs).trans hge
        · exact le_rfl
      · rintro s (hs | rfl) e
        · exact h.first s hs (e.trans hv.symm)
        · exact hi.le
    · rw [if_neg (fun e => e.elim hlt heq)]
      refine ⟨Or.inl ⟨Or.inr rfl, rfl⟩, ?_, ?_⟩
      · rintro s (hs | rfl)
        · exact (h.le s hs).trans hge
        · exact le_rfl
      · rintro s (hs | rfl) e
        · have hv : v = g r := le_antisymm hge (e ▸ h.le s hs)
          have hri : r ≤ i := not_lt.mp fun e' => heq ⟨hv, e'⟩
          exact hri.trans (h.first s hs (e.trans hv.symm))
        · exact le_rfl

/-- A fold whose every step is that of `Lead`, over pairs of a row's value and the row's number as a word. -/
theorem fold_lead (f : EReal × BitVec 32 → EReal × BitVec 32 → EReal × BitVec 32) (n : ℕ)
    (hf : ∀ (p : EReal × BitVec 32) (r : ℕ), p.2.toNat < n → r < n →
      f p (g r, BitVec.ofNat 32 r) = (if g r < p.1 then p.1 else g r, if g r < p.1 ∨ (p.1 = g r ∧ p.2.toNat < r) then p.2 else BitVec.ofNat 32 r))
    (hn : n ≤ 2 ^ 32) (l : List (EReal × BitVec 32)) :
    ∀ (S : Set ℕ) (p : EReal × BitVec 32), (∀ q ∈ l, ∃ r < n, q = (g r, BitVec.ofNat 32 r)) → p.2.toNat < n → Lead g S p.1 p.2.toNat →
      (l.foldl f p).2.toNat < n ∧ Lead g (S ∪ {r | r < n ∧ (g r, BitVec.ofNat 32 r) ∈ l}) (l.foldl f p).1 (l.foldl f p).2.toNat := by
  have hof : ∀ r, r < n → (BitVec.ofNat 32 r).toNat = r := fun r hr => by
    rw [BitVec.toNat_ofNat]; exact Nat.mod_eq_of_lt (lt_of_lt_of_le hr hn)
  induction l with
  | nil =>
    intro S p _ hp h
    refine ⟨hp, ?_⟩
    rwa [show S ∪ {r | r < n ∧ (g r, BitVec.ofNat 32 r) ∈ ([] : List (EReal × BitVec 32))} = S from by ext; simp]
  | cons q l ih =>
    intro S p hq hp h
    obtain ⟨r, hr, rfl⟩ := hq q List.mem_cons_self
    rw [List.foldl_cons, hf p r hp hr]
    have hnat : (if g r < p.1 ∨ (p.1 = g r ∧ p.2.toNat < r) then p.2 else BitVec.ofNat 32 r).toNat
        = if g r < p.1 ∨ (p.1 = g r ∧ p.2.toNat < r) then p.2.toNat else r := by split <;> simp only [hof r hr]
    have := ih (S ∪ {r}) (if g r < p.1 then p.1 else g r, if g r < p.1 ∨ (p.1 = g r ∧ p.2.toNat < r) then p.2 else BitVec.ofNat 32 r)
      (fun q' hq' => hq q' (List.mem_cons_of_mem _ hq')) (by simp only [hnat]; split <;> assumption)
      (by simp only [hnat]; exact h.step r)
    refine ⟨this.1, ?_⟩
    refine Eq.mp (congrArg (fun S' => Lead g S' _ _) ?_) this.2
    ext s
    simp only [Set.mem_union, Set.mem_singleton_iff, Set.mem_setOf_eq, List.mem_cons]
    constructor
    · rintro ((hs | rfl) | ⟨hs, hm⟩)
      · exact Or.inl hs
      · exact Or.inr ⟨hr, Or.inl rfl⟩
      · exact Or.inr ⟨hs, Or.inr hm⟩
    · rintro (hs | ⟨hs, e | hm⟩)
      · exact Or.inl (Or.inl hs)
      · refine Or.inl (Or.inr ?_)
        have := congrArg BitVec.toNat (congrArg Prod.snd e)
        simpa only [hof s hs, hof r hr] using this
      · exact Or.inr ⟨hs, hm⟩

end Cert.ArgmaxProof

end
-- ==== Proof.RefBest.lean ====
/-
# The reference's value on the extended reals

In each column the reference's row number is the first row of the largest value, and its value is that one.
-/
module

public import proofs.«01_k».proof.Proof.Ref
public import proofs.«01_k».proof.Proof.Best
public import Idealize.ShloMosaic.Lib.ValueIdxCore
public import Idealize.ShloMosaic.Lib.Pipeline.Value

@[expose] public section

noncomputable section

namespace Cert.ArgmaxProof

open Idealize.ShloMosaic
open Idealize.ShloMosaic.ValueIdx (ix1 ix2 eq_ix2)
open Cert.ReferenceIdeal Cert.ReferenceIdeal.Gen

/-- Column `j` of the whole array as a function of the row. -/
def colG (x : FVec Ideal ⟨2, ![16384, 512]⟩ .f32) (j : Fin 512) (r : ℕ) : EReal :=
  if h : r < 16384 then x (ix2 ⟨r, h⟩ j) else ⊥

theorem colG_of_lt (x : FVec Ideal ⟨2, ![16384, 512]⟩ .f32) (j : Fin 512) {r : ℕ} (h : r < 16384) : colG x j r = x (ix2 ⟨r, h⟩ j) := dif_pos h

/-- All the rows. -/
abbrev rows : Set ℕ := {r | r < 16384}

theorem ofBits_ninf : (FloatOps.ofBits .f32 0xFF800000#32 : Ideal .f32) = (⊥ : EReal) := by
  show Ideal.ofBits .f32 0xFF800000#32 = ⊥
  simp [Ideal.ofBits, Ideal.ieee]

theorem select_ofBool {α : Type} (b : Bool) (x y : α) : Scalar.select (BitVec.ofBool b) x y = if b then x else y := by cases b <;> rfl

theorem slt_iff {a b : BitVec 32} (ha : a.toNat < 2 ^ 31) (hb : b.toNat < 2 ^ 31) : (a.slt b = true) ↔ a.toNat < b.toNat := by
  have e := BitVec.toInt_eq_toNat_cond a
  have e' := BitVec.toInt_eq_toNat_cond b
  rw [BitVec.slt_iff_toInt_lt]
  omega

namespace Ref

/-- One step of the reference's search. -/
theorem reducer_eq (p q : EReal × BitVec 32) (hp : p.2.toNat < 2 ^ 31) (hq : q.2.toNat < 2 ^ 31) :
    reducer_argmax_f32_i32 (F := Ideal) p q
      = (if q.1 < p.1 then p.1 else q.1, if q.1 < p.1 ∨ (p.1 = q.1 ∧ p.2.toNat < q.2.toNat) then p.2 else q.2) := by
  unfold reducer_argmax_f32_i32
  dsimp only
  simp only [Ideal.cmpf_def, Ideal.cmp, IntOp.cmpi, WordArith.ori_ofBool, WordArith.andi_ofBool, select_ofBool]
  refine Prod.ext ?_ ?_ <;>
    simp [slt_iff hp hq]

/-- The pairs the search in column `j` goes through are the column's, one for each row. -/
theorem mem_fiber (x : FVec Ideal S16384x512 .f32) (j : Fin 512) (q : EReal × BitVec 32) :
    q ∈ Host.argReduceFiber x (iotaInDim S16384x512 32 0) reducesTo_S16384x512_S512_d0 (ix1 j)
      ↔ ∃ r < 16384, q = (colG x j r, BitVec.ofNat 32 r) := by
  have hd : ∀ i : S16384x512.Idx, reducesTo_S16384x512_S512_d0.drop i = ix1 j ↔ i 1 = j := fun i => by
    constructor
    · intro e
      have h := congrArg Fin.val (congrFun e 0)
      rw [reducesTo_S16384x512_S512_d0.drop_apply_val_of_eq i 0 1] at h
      exact Fin.ext h
    · intro e
      funext b
      match b with
      | ⟨0, _⟩ => exact Fin.ext ((reducesTo_S16384x512_S512_d0.drop_apply_val_of_eq i 0 1).trans (congrArg Fin.val e))
  unfold Host.argReduceFiber
  simp only [List.mem_map, List.mem_filter, List.mem_finRange, true_and, decide_eq_true_eq, hd]
  constructor
  · rintro ⟨n, hn, rfl⟩
    generalize S16384x512.rowMajor.symm n = i at hn ⊢
    subst hn
    refine ⟨(i 0).val, (i 0).isLt, Prod.ext ?_ rfl⟩
    exact (congrArg x (eq_ix2 i)).trans (colG_of_lt x (i 1) (i 0).isLt).symm
  · rintro ⟨r, hr, rfl⟩
    refine ⟨S16384x512.rowMajor (ix2 ⟨r, hr⟩ j), ?_, ?_⟩
    · rw [Equiv.symm_apply_apply]
    · rw [Equiv.symm_apply_apply]
      exact Prod.ext (colG_of_lt x j hr).symm rfl

theorem toNat_row {r : ℕ} (hr : r < 16384) : (BitVec.ofNat 32 r).toNat = r := by
  rw [BitVec.toNat_ofNat]; exact Nat.mod_eq_of_lt (by omega)

theorem reducer_step (g : ℕ → EReal) (p : EReal × BitVec 32) (r : ℕ) (hp : p.2.toNat < 16384) (hr : r < 16384) :
    reducer_argmax_f32_i32 (F := Ideal) p (g r, BitVec.ofNat 32 r)
      = (if g r < p.1 then p.1 else g r, if g r < p.1 ∨ (p.1 = g r ∧ p.2.toNat < r) then p.2 else BitVec.ofNat 32 r) := by
  have := reducer_eq p (g r, BitVec.ofNat 32 r) (by omega) (by simp only [toNat_row hr]; omega)
  simpa only [toNat_row hr] using this

/-- A search through the pairs of all the rows, in any order, ends at the first row of the largest value. -/
theorem search_best (g : ℕ → EReal) (l : List (EReal × BitVec 32)) (hm : ∀ q, q ∈ l ↔ ∃ r < 16384, q = (g r, BitVec.ofNat 32 r)) :
    (l.foldl (reducer_argmax_f32_i32 (F := Ideal)) ((⊥ : EReal), 0#32)).2.toNat < 16384
      ∧ ∃ v, Best g rows v (l.foldl (reducer_argmax_f32_i32 (F := Ideal)) ((⊥ : EReal), 0#32)).2.toNat := by
  have h := fold_lead (g := g) (reducer_argmax_f32_i32 (F := Ideal)) 16384 (reducer_step g)
    (by norm_num) l ∅ ((⊥ : EReal), 0#32) (fun q hq => (hm q).mp hq) (by decide)
    ⟨Or.inr ⟨rfl, rfl⟩, fun r hr => hr.elim, fun r hr => hr.elim⟩
  have hS : (∅ : Set ℕ) ∪ {r | r < 16384 ∧ (g r, BitVec.ofNat 32 r) ∈ l} = rows := by
    ext r
    simp only [Set.empty_union, Set.mem_setOf_eq, and_iff_left_iff_imp]
    exact fun hr => (hm _).mpr ⟨r, hr, rfl⟩
  rw [hS] at h
  exact ⟨h.1, _, h.2.best (show 0 < 16384 by norm_num)⟩

theorem refIdx_eq (x : FVec Ideal S16384x512 .f32) :
    refIdx x = fun j => (Host.argReduce (reducer_argmax_f32_i32 (F := Ideal)) x (iotaInDim S16384x512 32 0) (constant S_ .f32 0xFF800000#32)
      (constantI S_ 32 0#32) reducesTo_S16384x512_S512_d0 h_S_ j).2 := rfl

/-- The first pair of the search. -/
theorem first_pair : ((constant S_ .f32 0xFF800000#32 : FVec Ideal S_ .f32) (Shape.Idx.first h_S_), constantI S_ 32 0#32 (Shape.Idx.first h_S_))
    = ((⊥ : EReal), 0#32) := Prod.ext ofBits_ninf rfl

theorem refIdx_fold (x : FVec Ideal S16384x512 .f32) (j : S512.Idx) :
    refIdx x j = ((Host.argReduceFiber x (iotaInDim S16384x512 32 0) reducesTo_S16384x512_S512_d0 j).foldl
      (reducer_argmax_f32_i32 (F := Ideal)) ((⊥ : EReal), 0#32)).2 :=
  (congrFun (refIdx_eq x) j).trans (congrArg Prod.snd
    ((congrFun (Ideal.argReduce_eq_reduce2 _ _ _ _ _ _ _) j).trans ((Host.reduce2_eq_foldl_fiber _ _ _ _ _ _ _ _).trans
      (congrArg (fun p => (Host.argReduceFiber x (iotaInDim S16384x512 32 0) reducesTo_S16384x512_S512_d0 j).foldl
        (reducer_argmax_f32_i32 (F := Ideal)) p) first_pair))))

/-- The reference's row number is the first row of the column's largest value. -/
theorem refIdx_best (x : FVec Ideal S16384x512 .f32) (j : Fin 512) :
    (refIdx x (ix1 j)).toNat < 16384 ∧ ∃ v, Best (colG x j) rows v (refIdx x (ix1 j)).toNat := by
  rw [refIdx_fold]
  exact search_best (colG x j) _ (mem_fiber x j)

/-- The reference's value is the largest. -/
theorem refMax_best (x : FVec Ideal S16384x512 .f32) (j : Fin 512) {v : EReal} {i : ℕ} (h : Best (colG x j) rows v i) :
    refMax x (ix1 j) = v := by
  have hr : Shape.Reduces S16384x512 [0] S512 := by decide
  have hl : ∀ r : Fin 16384, (x ∘ hr.lift (ix1 j)) r = colG x j r.val := fun r => by
    rw [colG_of_lt x j r.isLt]
    refine congrArg x (funext fun b => Fin.ext ?_)
    match b with
    | ⟨0, _⟩ => rfl
    | ⟨1, _⟩ => rfl
  have e : refMax x (ix1 j) = Finset.univ.fold max (⊥ : EReal) (x ∘ hr.lift (ix1 j)) := by
    unfold refMax
    rw [← ofBits_ninf]
    exact Host.reduce_eq_fold_single (max : EReal → EReal → EReal) x _ _ hr _ _
  rw [e]
  obtain ⟨hle, r, hr'⟩ := fold_max_spec (n := 16384) (by norm_num) (x ∘ hr.lift (ix1 j))
  refine le_antisymm ?_ ?_
  · have := h.le r.val r.isLt
    rw [← hl r] at this
    exact (le_of_eq hr'.symm).trans this
  · exact (le_of_eq (h.val.symm.trans (hl ⟨i, h.mem⟩).symm)).trans (hle ⟨i, h.mem⟩)

/-- The two rows of the reference's result. -/
theorem refOut_apply (x : FVec Ideal S16384x512 .f32) (i : S2x512.Idx) :
    refOut x i = if (i 0).val = 0 then refMax x (ix1 (i 1)) else ((((refIdx x (ix1 (i 1))).toInt : ℝ)) : EReal) := by
  have h2 : (i 0).val < 2 := (i 0).isLt
  unfold refOut
  by_cases h : (i 0).val = 0
  · rw [if_pos h, concatenate_pair_apply_left (s₁ := S1x512) (s₂ := S1x512) (0 : Fin 2) _ _ _ i rfl (ix2 (n0 := 1) (n1 := 512) 0 (i 1)) fun b => by
      match b with
      | ⟨0, _⟩ => exact h.symm
      | ⟨1, _⟩ => rfl]
    exact broadcastInDim_apply _ _ _ _ (ix1 (i 1)) fun a => by
      match a with
      | ⟨0, _⟩ => rfl
  · rw [if_neg h, concatenate_pair_apply_right (s₁ := S1x512) (s₂ := S1x512) (0 : Fin 2) _ _ _ i rfl rfl (ix2 (n0 := 1) (n1 := 512) 0 (i 1)) (fun b hb => by
      match b with
      | ⟨0, _⟩ => exact absurd rfl hb
      | ⟨1, _⟩ => rfl) (by show 0 + 1 = (i 0).val; omega)]
    exact broadcastInDim_apply _ _ (sitofp (F := Ideal) .f32 (refIdx x)) _ (ix1 (i 1)) fun a => by
      match a with
      | ⟨0, _⟩ => rfl

end Ref

end Cert.ArgmaxProof

end
-- ==== Proof.DevBest.lean ====
/-
# A device's pair on the extended reals

Given the devices' blocks of the array, in each column a chunk's pair, then a device's, then the pair after each merge is
the largest value over the rows seen so far and the first row that has it.
-/
module

public import proofs.«01_k».proof.Proof.Values
public import proofs.«01_k».proof.Proof.RefBest
public import Idealize.ShloMosaic.Lib.ValueLayout
public import Idealize.ShloMosaic.Lib.Layout

@[expose] public section

noncomputable section

namespace Cert.ArgmaxProof

open Cert.KernelIdeal Cert.KernelIdeal.Gen
open Idealize.ShloMosaic Idealize.ShloMosaic.TcCoe Idealize.SL.Sem
open Idealize.ShloMosaic.ValueIdx (ix1 ix2 eq_ix2)

/-! ## A chunk -/

theorem chunkMax_fold (X : FVec Ideal S256x512 .f32) (j : Fin 512) :
    chunkMax X (ix1 j) = Finset.univ.fold max (⊥ : EReal) (fun r : Fin 256 => X (ix2 r j)) := by
  unfold chunkMax
  rw [← ofBits_ninf]
  refine (Ideal.multiReduction_maximumf_single X _ reduces_S256x512_S512 _ _ (ix1 j)).trans ?_
  refine congrArg (Finset.fold _ _ · _) (funext fun r => congrArg X (funext fun b => Fin.ext ?_))
  match b with
  | ⟨0, _⟩ => rfl
  | ⟨1, _⟩ => rfl

/-- What a row of the chunk counts as: itself where it has the largest value, 256 otherwise. -/
def cand (X : FVec Ideal S256x512 .f32) (j : Fin 512) (r : Fin 256) : BitVec 32 :=
  if X (ix2 r j) = chunkMax X (ix1 j) then BitVec.ofNat 32 r.val else 256#32

theorem cand_toNat (X : FVec Ideal S256x512 .f32) (j : Fin 512) (r : Fin 256) :
    (cand X j r).toNat = if X (ix2 r j) = chunkMax X (ix1 j) then r.val else 256 := by
  unfold cand
  have := r.isLt
  split
  · rw [BitVec.toNat_ofNat]; exact Nat.mod_eq_of_lt (by omega)
  · rfl

theorem chunkIdx_fold (X : FVec Ideal S256x512 .f32) (off : BitVec 32) (j : Fin 512) :
    chunkIdx X off (ix1 j) = Finset.univ.fold IntOp.minsi 2147483647#32 (cand X j) + off := by
  unfold chunkIdx
  refine congrArg (· + off) ?_
  refine (multiReductionI_eq_fold IKind.minsi _ _ reduces_S256x512_S512 rfl (ix1 j)).trans ?_
  refine (reduces_S256x512_S512.fold_filter_drop_single _ _ _ (ix1 j)).trans ?_
  refine congrArg (Finset.fold _ _ · _) (funext fun r => ?_)
  have hl : reduces_S256x512_S512.lift (ix1 j) r = ix2 (n0 := 256) r j := funext fun b => Fin.ext (by
    match b with
    | ⟨0, _⟩ => rfl
    | ⟨1, _⟩ => rfl)
  rw [Function.comp_apply, hl, ValueIdx.select_apply, ValueIdx.cmpf_apply, Ideal.cmpf_def, Ideal.cmp, select_ofBool]
  have hb : broadcastTo S256x512 (shapeCast S1x512 (chunkMax X) shapeCasts_S512_S1x512) broadcasts_S1x512_S256x512 (ix2 (n0 := 256) r j)
      = chunkMax X (ix1 j) :=
    (ValueIdx.broadcastTo_1b_ab_apply _ _ _ _).trans (ValueIdx.shapeCast_a_1a_apply _ _ _ _)
  have hr : rowsV (ix2 (n0 := 256) r j) = BitVec.ofNat 32 r.val := iota_single_apply _ _ _ _ _ _
  rw [hb, hr]
  unfold cand
  simp only [decide_eq_true_eq]
  rfl

/-- A chunk whose rows are those of `g` from `b` on. -/
theorem chunk_best (g : ℕ → EReal) (b : ℕ) (X : FVec Ideal S256x512 .f32) (j : Fin 512) (hX : ∀ r : Fin 256, X (ix2 r j) = g (b + r.val))
    (off : BitVec 32) (ho : off.toNat < 1024) :
    ∃ i < 256, (chunkIdx X off (ix1 j)).toNat = off.toNat + i ∧ Best g {r | b ≤ r ∧ r < b + 256} (chunkMax X (ix1 j)) (b + i) := by
  obtain ⟨hle, r₀, hr₀⟩ := fold_max_spec (n := 256) (by norm_num) (fun r : Fin 256 => X (ix2 r j))
  rw [← chunkMax_fold] at hle hr₀
  obtain ⟨i, hi, hN, hfirst⟩ := fold_min_first (n := 256) (b := 2147483647) (by norm_num)
    (fun r : Fin 256 => X (ix2 r j) = chunkMax X (ix1 j)) ⟨r₀, hr₀⟩
  have hw := fold_minsi_toNat Finset.univ 2147483647#32 (cand X j) (by decide) (fun r => by
    rw [cand_toNat]; have := r.isLt; split <;> omega)
  have hw' : (Finset.univ.fold IntOp.minsi 2147483647#32 (cand X j)).toNat = i.val := by
    rw [hw.1, ← hN]
    exact congrArg (Finset.fold _ _ · _) (funext fun r => cand_toNat X j r)
  have hil := i.isLt
  refine ⟨i.val, hil, ?_, ⟨⟨by omega, by omega⟩, (hX i).symm.trans hi, ?_, ?_⟩⟩
  · rw [chunkIdx_fold, BitVec.toNat_add, hw']; omega
  · rintro r ⟨h1, h2⟩
    have := hle ⟨r - b, by omega⟩
    rw [hX, show b + (⟨r - b, by omega⟩ : Fin 256).val = r from by show b + (r - b) = r; omega] at this
    exact this
  · rintro r ⟨h1, h2⟩ e
    have := hfirst ⟨r - b, by omega⟩ (by
      rw [hX, show b + (⟨r - b, by omega⟩ : Fin 256).val = r from by show b + (r - b) = r; omega]; exact e)
    have : i.val ≤ r - b := this
    omega

/-! ## The merges -/

/-- In column `j`, a pair whose row number counts from `base`. -/
def BestI (g : ℕ → EReal) (base : ℕ) (S : Set ℕ) (j : Fin 512) (a : FVec Ideal S512 .f32 × IVec S512 32) : Prop :=
  (a.2 (ix1 j)).toNat < 1024 ∧ Best g S (a.1 (ix1 j)) (base + (a.2 (ix1 j)).toNat)

/-- In column `j`, a pair whose row number is a float. -/
def BestF (g : ℕ → EReal) (S : Set ℕ) (j : Fin 512) (a : FVec Ideal S512 .f32 × FVec Ideal S512 .f32) : Prop :=
  ∃ i : ℕ, a.2 (ix1 j) = (((i : ℤ) : ℝ) : EReal) ∧ Best g S (a.1 (ix1 j)) i

variable {g : ℕ → EReal} {base : ℕ} {S T : Set ℕ} {j : Fin 512}

theorem mergeI_best {a b : FVec Ideal S512 .f32 × IVec S512 32} (ha : BestI g base S j a) (hb : BestI g base T j b) :
    BestI g base (S ∪ T) j (mergeI a b) := by
  have h := ha.2.merge hb.2 (a.1 (ix1 j) < b.1 (ix1 j) ∨ (b.1 (ix1 j) = a.1 (ix1 j) ∧ (b.2 (ix1 j)).toNat < (a.2 (ix1 j)).toNat))
    (or_congr_right (and_congr_right fun _ => by omega))
  have hsel : ∀ {α : Type} (u v : S512.Idx → α),
      select (ori (cmpf .ogt b.1 a.1) (andi (cmpf .oeq b.1 a.1) (cmpi .slt b.2 a.2))) u v (ix1 j)
        = if a.1 (ix1 j) < b.1 (ix1 j) ∨ (b.1 (ix1 j) = a.1 (ix1 j) ∧ (b.2 (ix1 j)).toNat < (a.2 (ix1 j)).toNat) then u (ix1 j) else v (ix1 j) := by
    intro α u v
    show Scalar.select (IntOp.ori (Ideal.cmp .ogt _ _) (IntOp.andi (Ideal.cmp .oeq _ _) (IntOp.cmpi .slt _ _))) _ _ = _
    simp only [Ideal.cmp, IntOp.cmpi, WordArith.ori_ofBool, WordArith.andi_ofBool, select_ofBool, Bool.or_eq_true, Bool.and_eq_true,
      decide_eq_true_eq, slt_iff (show (b.2 (ix1 j)).toNat < 2 ^ 31 by have := hb.1; omega) (show (a.2 (ix1 j)).toNat < 2 ^ 31 by have := ha.1; omega)]
  unfold BestI mergeI
  dsimp only
  rw [hsel, hsel]
  refine ⟨?_, Eq.mp ?_ h⟩
  · split
    · exact hb.1
    · exact ha.1
  · split <;> rfl

theorem mergeF_best {a b : FVec Ideal S512 .f32 × FVec Ideal S512 .f32} (ha : BestF g S j a) (hb : BestF g T j b) :
    BestF g (S ∪ T) j (mergeF a b) := by
  obtain ⟨i, hi, ha⟩ := ha
  obtain ⟨k, hk, hb⟩ := hb
  have h := ha.merge hb (a.1 (ix1 j) < b.1 (ix1 j) ∨ (b.1 (ix1 j) = a.1 (ix1 j) ∧ k < i)) Iff.rfl
  have hlt : (b.2 (ix1 j) < a.2 (ix1 j)) ↔ k < i := by
    rw [hi, hk]
    exact EReal.coe_lt_coe_iff.trans (by simp)
  have hsel : ∀ u v : FVec Ideal S512 .f32,
      select (ori (cmpf .ogt b.1 a.1) (andi (cmpf .oeq b.1 a.1) (cmpf .olt b.2 a.2))) u v (ix1 j)
        = if a.1 (ix1 j) < b.1 (ix1 j) ∨ (b.1 (ix1 j) = a.1 (ix1 j) ∧ k < i) then u (ix1 j) else v (ix1 j) := by
    intro u v
    show Scalar.select (IntOp.ori (Ideal.cmp .ogt _ _) (IntOp.andi (Ideal.cmp .oeq _ _) (Ideal.cmp .olt _ _))) _ _ = _
    simp only [Ideal.cmp, WordArith.ori_ofBool, WordArith.andi_ofBool, select_ofBool, Bool.or_eq_true, Bool.and_eq_true,
      decide_eq_true_eq, hlt]
  unfold BestF mergeF
  dsimp only
  rw [hsel, hsel]
  refine ⟨_, ?_, h⟩
  split <;> assumption

/-! ## A device, and the merges of the others' blocks -/

/-- The rows device `d` holds. -/
def devRows (d : Dev nD) : Set ℕ := {r | 1024 * d.val ≤ r ∧ r < 1024 * d.val + 1024}

/-- The rows device `c` has seen after `n` merges. -/
def seen (c : Dev nD) : ℕ → Set ℕ
  | 0 => devRows c
  | n + 1 => seen c n ∪ devRows (peer c (Fin.ofNat 15 n))

theorem devRows_sub_seen (c : Dev nD) (k n : ℕ) (h : k < n) : devRows (peer c (Fin.ofNat 15 k)) ⊆ seen c n := by
  induction n with
  | zero => omega
  | succ n ih =>
    rcases Nat.lt_succ_iff_lt_or_eq.mp h with h' | rfl
    · exact (ih h').trans Set.subset_union_left
    · exact Set.subset_union_right

theorem self_sub_seen (c : Dev nD) (n : ℕ) : devRows c ⊆ seen c n := by
  induction n with
  | zero => exact subset_rfl
  | succ n ih => exact ih.trans Set.subset_union_left

theorem devRows_sub_rows (d : Dev nD) : devRows d ⊆ rows := fun r hr => by
  have := val_lt d
  have : r < 1024 * d.val + 1024 := hr.2
  show r < 16384
  omega

theorem seen_sub_rows (c : Dev nD) (n : ℕ) : seen c n ⊆ rows := by
  induction n with
  | zero => exact devRows_sub_rows c
  | succ n ih => exact Set.union_subset ih (devRows_sub_rows _)

/-- After the fifteen merges it has seen them all. -/
theorem seen_all (c : Dev nD) : seen c 15 = rows := by
  refine Set.Subset.antisymm (seen_sub_rows c 15) fun r hr => ?_
  have hr : r < 16384 := hr
  have hc := val_lt c
  by_cases h : r / 1024 = c.val
  · exact self_sub_seen c 15 ⟨by omega, by omega⟩
  · have hk : (r / 1024 + 15 - c.val) % 16 < 15 := by omega
    refine devRows_sub_seen c _ 15 hk ?_
    have hp : (peer c (Fin.ofNat 15 ((r / 1024 + 15 - c.val) % 16))).val = r / 1024 := by
      show (c.val + 1 + ((r / 1024 + 15 - c.val) % 16) % 15) % 16 = r / 1024
      rw [Nat.mod_eq_of_lt hk]
      omega
    show 1024 * _ ≤ r ∧ r < 1024 * _ + 1024
    rw [hp]
    omega

section Device

/-- The array is sixteen blocks of rows. -/
theorem tiles : Layout.Tiles ⟨2, ![1024, 512]⟩ ⟨2, ![16384, 512]⟩ 0 16 := by decide

variable {m : (ℓ : Loc nD τ sig) → Buf (Elt Ideal) ℓ} {x : FVec Ideal ⟨2, ![16384, 512]⟩ .f32}
variable (hblk : ∀ c : Dev nD, m ((c.tc : Thread nD τ).loc main_arg0) = Layout.block ⟨2, ![1024, 512]⟩ ⟨2, ![16384, 512]⟩ 0 16 c x tiles)

include hblk

/-- A chunk's rows in the whole array. -/
theorem chunkV_col (c : Dev nD) (k : Fin 4) (j : Fin 512) (r : Fin 256) :
    chunkV m c k (ix2 r j) = colG x j (1024 * c.val + 256 * k.val + r.val) := by
  have hc := val_lt c
  have hk := k.isLt
  have hr := r.isLt
  rw [colG_of_lt x j (show 1024 * c.val + 256 * k.val + r.val < 16384 by omega)]
  have h1 : chunkV m c k (ix2 r j) = m ((c.tc : Thread nD τ).loc main_arg0) (ix2 (n0 := 1024) ⟨256 * k.val + r.val, by omega⟩ j) := by
    refine congrArg (m ((c.tc : Thread nD τ).loc main_arg0)) (funext fun b => Fin.ext ?_)
    match b with
    | ⟨0, _⟩ => show 256 * k.val + 1 * r.val = 256 * k.val + r.val; omega
    | ⟨1, _⟩ => show 0 + 1 * j.val = j.val; omega
  rw [h1, hblk c]
  refine (Layout.block_apply (S := ⟨2, ![1024, 512]⟩) (T := ⟨2, ![16384, 512]⟩) c x _ _).trans (congrArg x (funext fun b => Fin.ext ?_))
  refine (Layout.Tiles.idx_val _ c _ b).trans ?_
  match b with
  | ⟨0, _⟩ => show c.val * 1024 + (256 * k.val + r.val) = 1024 * c.val + 256 * k.val + r.val; omega
  | ⟨1, _⟩ => rfl

theorem chunkPair_best (c : Dev nD) (j : Fin 512) (k : Fin 4) (off : BitVec 32) (ho : off.toNat = 256 * k.val) :
    BestI (colG x j) (1024 * c.val) {r | 1024 * c.val + 256 * k.val ≤ r ∧ r < 1024 * c.val + 256 * k.val + 256} j (chunkPair (chunkV m c k) off) := by
  have hk := k.isLt
  obtain ⟨i, hi, hw, hb⟩ := chunk_best (colG x j) (1024 * c.val + 256 * k.val) (chunkV m c k) j (chunkV_col hblk c k j) off (by omega)
  unfold BestI chunkPair
  dsimp only
  rw [hw, ho]
  exact ⟨by omega, Nat.add_assoc (1024 * c.val) (256 * k.val) i ▸ hb⟩

/-- A device's pair over its own rows. -/
theorem localPair_best (c : Dev nD) (j : Fin 512) : BestI (colG x j) (1024 * c.val) (devRows c) j (localPair m c) := by
  have h := mergeI_best (mergeI_best (mergeI_best (chunkPair_best hblk c j 0 0#32 rfl) (chunkPair_best hblk c j 1 256#32 rfl))
    (chunkPair_best hblk c j 2 512#32 rfl)) (chunkPair_best hblk c j 3 768#32 rfl)
  refine Eq.mp (congrArg (fun S => BestI (colG x j) (1024 * c.val) S j (localPair m c)) ?_) h
  ext r
  show (((_ ∧ _) ∨ (_ ∧ _)) ∨ (_ ∧ _)) ∨ (_ ∧ _) ↔ _ ∧ _
  simp only [Fin.val_zero, Fin.val_one, Fin.val_two, show (3 : Fin 4).val = 3 from rfl]
  omega

omit hblk in
theorem offset_toNat (c : Dev nD) : (Scalar.muli (posW c) 1024#32).toNat = 1024 * c.val := by
  revert c; decide

theorem own_best (c : Dev nD) (j : Fin 512) : BestF (colG x j) (devRows c) j (own m c) := by
  obtain ⟨hlt, hb⟩ := localPair_best hblk c j
  have hc := val_lt c
  refine ⟨_, ?_, hb⟩
  have hn : ((localPair m c).2 (ix1 j) + Scalar.muli (posW c) 1024#32).toNat = 1024 * c.val + ((localPair m c).2 (ix1 j)).toNat := by
    rw [BitVec.toNat_add, offset_toNat]; omega
  have hi : ((localPair m c).2 (ix1 j) + Scalar.muli (posW c) 1024#32).toInt = ((1024 * c.val + ((localPair m c).2 (ix1 j)).toNat : ℕ) : ℤ) := by
    rw [BitVec.toInt_eq_toNat_cond, hn, if_pos (by omega)]
  exact congrArg (fun z : ℤ => ((z : ℝ) : EReal)) hi

theorem acc_best (c : Dev nD) (j : Fin 512) (n : ℕ) : BestF (colG x j) (seen c n) j (acc m c n) := by
  induction n with
  | zero => exact own_best hblk c j
  | succ n ih => exact mergeF_best ih (own_best hblk _ j)

end Device

end Cert.ArgmaxProof

end
-- ==== Proof.Match.lean ====
/-
# The kernel's result is the reference's

On the extended reals, given the devices' blocks of the array, every device ends with the reference's two rows: in each
column both are the largest value and the first row that has it, and there is one such pair.
-/
module

public import proofs.«01_k».proof.Proof.DevBest

@[expose] public section

noncomputable section

namespace Cert.ArgmaxProof

open Cert.KernelIdeal Cert.KernelIdeal.Gen
open Idealize.ShloMosaic Idealize.ShloMosaic.TcCoe Idealize.SL.Sem
open Idealize.ShloMosaic.ValueIdx (ix1 ix2)

theorem out_match (m : (ℓ : Loc nD τ sig) → Buf (Elt Ideal) ℓ) (x : FVec Ideal ⟨2, ![16384, 512]⟩ .f32)
    (hblk : ∀ c : Dev nD, m ((c.tc : Thread nD τ).loc main_arg0) = Layout.block ⟨2, ![1024, 512]⟩ ⟨2, ![16384, 512]⟩ 0 16 c x tiles)
    (c : Dev nD) : outV m c = Ref.refOut (F := Ideal) x := by
  funext i
  obtain ⟨k, hk, hb⟩ := acc_best hblk c (i 1) 15
  rw [seen_all] at hb
  obtain ⟨hlt, v, hv⟩ := Ref.refIdx_best x (i 1)
  have hm := Ref.refMax_best x (i 1) hb
  have hi : ((Ref.refIdx x (ix1 (i 1))).toInt : ℤ) = (k : ℤ) := by
    rw [BitVec.toInt_eq_toNat_cond, if_pos (by omega), (hv.unique hb).2]
  refine Eq.trans ?_ (Ref.refOut_apply x i).symm
  show (if (i 0).val = 0 then (acc m c 15).1 (ix1 (i 1)) else (acc m c 15).2 (ix1 (i 1))) = _
  by_cases h : (i 0).val = 0
  · rw [if_pos h, if_pos h]; exact hm.symm
  · rw [if_neg h, if_neg h, hk]
    exact congrArg (fun z : ℤ => ((z : ℝ) : EReal)) hi.symm

end Cert.ArgmaxProof

end
-- ==== Proof.lean ====
/-
# The claims

The kernel's run (`run_main`, Launch.lean) is one theorem over any float values. It is read twice: at the bit patterns
for the kernel, whose text the idealised kernel shares, and at the extended reals.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import Idealize.ShloMosaic.Adequacy
public import proofs.«01_k».proof.Proof.Launch
public import proofs.«01_k».proof.Proof.Match
public import Idealize.ShloMosaic.Init

@[expose] public section

noncomputable section

namespace Cert.Proof

open Idealize.ShloMosaic Idealize.SL.Sem
open Cert.ArgmaxProof

/-- The two programs' one kernel function is the same, label by label, -/
theorem defs₀_eq {F : FTy → Type} [FloatOps F] : Cert.Kernel.defs₀ (F := F) = Cert.KernelIdeal.defs₀ (F := F) := by
  refine congrArg (Defs.onTc (Λ := Cert.Kernel.Λ₀)) ?_
  funext ℓ a
  obtain ⟨n, hn⟩ := ℓ
  cases n with
  | zero => rfl
  | succ n => exact absurd hn (Nat.not_lt.2 (Nat.le_add_left _ _))
/-- and so are their bodies' tables. -/
theorem defs_eq {F : FTy → Type} [FloatOps F] : Cert.Kernel.defs (F := F) = Cert.KernelIdeal.defs (F := F) :=
  congrArg (Pipeline.defs (Cert.Kernel.pcfgs (F := F))) defs₀_eq

/-- The kernel at the bit patterns: its text is the idealised kernel's. -/
theorem frame_kernel : Cert.quiescent_Kernel := fun m ρ _ => by
  rw [defs_eq]
  exact (θ_run Cert.KernelIdeal.defs _ _).mono (fun _ h => ⟨fun c => (h.1 c).2, h.2⟩) (run_main (F := Bits) m ρ)

theorem frame_kernelIdeal : Cert.quiescent_KernelIdeal := fun m ρ _ =>
  (θ_run Cert.KernelIdeal.defs _ _).mono (fun _ h => ⟨fun c => (h.1 c).2, h.2⟩) (run_main (F := Ideal) m ρ)

theorem frame_reference : Cert.quiescent_ReferenceIdeal := fun m ρ _ =>
  (θ_run Cert.ReferenceIdeal.defs _ _).mono (fun r h => ⟨fun c => (h c).2, sem_eq_zero_of_no_sems (by decide) r.2⟩)
    (Ref.run_main (F := Ideal) m ρ)

/-- Both runs end with the same two rows: every device's block holds the whole array's largest values and their rows
    (`out_match`, Match.lean). -/
theorem algebraic : Cert.algebraic_KernelIdeal_ReferenceIdeal := by
  intro m ρ m' ρ' _ hblk
  refine ⟨Ref.refOut (F := Ideal) (m' (((0 : Dev Cert.ReferenceIdeal.nD).tc : Thread Cert.ReferenceIdeal.nD Cert.ReferenceIdeal.τ).loc Cert.ReferenceIdeal.main_arg0)), ?_, ?_⟩
  · exact (θ_run Cert.KernelIdeal.defs _ _).mono
      (fun _ h c => ⟨((h.1 c).1 (0 : Fin 1)).trans ((finalA_out m c).trans (out_match m _ hblk c)), (h.1 c).2⟩) (run_main (F := Ideal) m ρ)
  · exact (θ_run Cert.ReferenceIdeal.defs _ _).mono (fun _ h => ⟨(h 0).1, (h 0).2⟩) (Ref.run_main (F := Ideal) m' ρ')

theorem claim : Cert.Claim := ⟨Cert.Kernel.Gen.facts, Cert.KernelIdeal.Gen.facts, Cert.ReferenceIdeal.Gen.facts,
  frame_kernel, frame_kernelIdeal, frame_reference, trivial, algebraic⟩

end Cert.Proof

end
